-- ==== Defs.lean ====
def Pre_Kernel [hPre_lengths_positive : Cert.Pre_lengths_positive.Facts] (m : (ℓ : Loc Cert.Kernel.nD Cert.Kernel.τ Cert.Kernel.sig) → Buf (Elt Bits) ℓ) : Prop :=
  ∀ c : Dev Cert.Kernel.nD,
    (Cert.Pre_lengths_positive.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_lengths_positive : Cert.Pre_lengths_positive.Facts] (m : (ℓ : Loc Cert.KernelIdeal.nD Cert.KernelIdeal.τ Cert.KernelIdeal.sig) → Buf (Elt Ideal) ℓ) : Prop :=
  ∀ c : Dev Cert.KernelIdeal.nD,
    (Cert.Pre_lengths_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lengths_positive [hPre_lengths_positive : Cert.Pre_lengths_positive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lengths_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_lengths_positive : Cert.Pre_lengths_positive.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_lengths_positive : Cert.Pre_lengths_positive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_lengths_positive [hReferenceIdeal : Cert.ReferenceIdeal.Facts] [hPre_lengths_positive : Cert.Pre_lengths_positive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lengths_positive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "scale_log2e" .f32 0x3DD53B95#32 (((Real.sqrt 192)⁻¹ * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal [hKernelIdeal : Cert.KernelIdeal.Facts] [hReferenceIdeal : Cert.ReferenceIdeal.Facts] [hPre_lengths_positive : Cert.Pre_lengths_positive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_lengths_positive : Cert.Pre_lengths_positive.Facts),
    quiescent_Kernel (hKernel := hKernel) (hPre_lengths_positive := hPre_lengths_positive)
    ∧ quiescent_KernelIdeal (hKernelIdeal := hKernelIdeal) (hPre_lengths_positive := hPre_lengths_positive)
    ∧ quiescent_ReferenceIdeal (hReferenceIdeal := hReferenceIdeal)
    ∧ quiescent_ReferenceIdeal_pre_lengths_positive (hReferenceIdeal := hReferenceIdeal) (hPre_lengths_positive := hPre_lengths_positive)
    ∧ preserves_Kernel_KernelIdeal
    ∧ algebraic_KernelIdeal_ReferenceIdeal (hKernelIdeal := hKernelIdeal) (hReferenceIdeal := hReferenceIdeal) (hPre_lengths_positive := hPre_lengths_positive)
-- ==== Pre_lengths_positive.lean ====
abbrev S3x384x32x512 : Shape := ⟨4, ![3, 384, 32, 512]⟩
abbrev S3x384x32 : Shape := ⟨3, ![3, 384, 32]⟩
abbrev S3x384x32x64 : Shape := ⟨4, ![3, 384, 32, 64]⟩
abbrev S3x384x512 : Shape := ⟨3, ![3, 384, 512]⟩
abbrev S3x384 : Shape := ⟨2, ![3, 384]⟩
abbrev S3x384x64 : Shape := ⟨3, ![3, 384, 64]⟩
abbrev S3 : Shape := ⟨1, ![3]⟩
abbrev S_ : Shape := ⟨0, ![]⟩

class Facts : Prop where
  bcast_S_S3 : S_.BroadcastsInDim S3 (![] : Fin 0 → Fin S3.rank)

variable [Facts]

def fn {F : FTy → Type} [FloatOps F] (main_arg0 : FVec F S3x384x32x512 .fp8e4m3) (main_arg1 : FVec F S3x384x32 .f32) (main_arg2 : FVec F S3x384x32x64 .bf16) (main_arg3 : FVec F S3x384x512 .fp8e4m3) (main_arg4 : FVec F S3x384 .f32) (main_arg5 : FVec F S3x384x64 .bf16) (main_arg6 : IVec S3 32) : IVec S3 1 :=
  let main_c : IVec S_ 32 := constantI S_ 32 1#32
  let main_v0 : IVec S3 32 := broadcastInDim S3 ![] bcast_S_S3 main_c
  let main_v1 : IVec S3 1 := cmpi .sge main_arg6 main_v0
  main_v1
-- ==== Kernel.lean ====
abbrev S3x384x32x512 : Shape := ⟨4, ![3, 384, 32, 512]⟩
abbrev S3x384x32 : Shape := ⟨3, ![3, 384, 32]⟩
abbrev S3x384x32x64 : Shape := ⟨4, ![3, 384, 32, 64]⟩
abbrev S3x384x512 : Shape := ⟨3, ![3, 384, 512]⟩
abbrev S3x384 : Shape := ⟨2, ![3, 384]⟩
abbrev S3x384x64 : Shape := ⟨3, ![3, 384, 64]⟩
abbrev S3 : Shape := ⟨1, ![3]⟩
abbrev S3x1x384 : Shape := ⟨3, ![3, 1, 384]⟩
abbrev S1x64x32x512 : Shape := ⟨4, ![1, 64, 32, 512]⟩
abbrev S1 : Shape := ⟨1, ![1]⟩
abbrev S1x64x32 : Shape := ⟨3, ![1, 64, 32]⟩
abbrev S1x64x32x64 : Shape := ⟨4, ![1, 64, 32, 64]⟩
abbrev S1x384x512 : Shape := ⟨3, ![1, 384, 512]⟩
abbrev S1x1x384 : Shape := ⟨3, ![1, 1, 384]⟩
abbrev S1x384x64 : Shape := ⟨3, ![1, 384, 64]⟩
abbrev S384x512 : Shape := ⟨2, ![384, 512]⟩
abbrev S64x32 : Shape := ⟨2, ![64, 32]⟩
abbrev S32x64 : Shape := ⟨2, ![32, 64]⟩
abbrev S1x384 : Shape := ⟨2, ![1, 384]⟩
abbrev S1x128x512 : Shape := ⟨3, ![1, 128, 512]⟩
abbrev S128x512 : Shape := ⟨2, ![128, 512]⟩
abbrev S1x128x64 : Shape := ⟨3, ![1, 128, 64]⟩
abbrev S128x64 : Shape := ⟨2, ![128, 64]⟩
abbrev S1x128 : Shape := ⟨2, ![1, 128]⟩
abbrev S1x8x32x512 : Shape := ⟨4, ![1, 8, 32, 512]⟩
abbrev S8x32x512 : Shape := ⟨3, ![8, 32, 512]⟩
abbrev S256x512 : Shape := ⟨2, ![256, 512]⟩
abbrev S1x8x32x64 : Shape := ⟨4, ![1, 8, 32, 64]⟩
abbrev S8x32x64 : Shape := ⟨3, ![8, 32, 64]⟩
abbrev S256x64 : Shape := ⟨2, ![256, 64]⟩
abbrev S256x128 : Shape := ⟨2, ![256, 128]⟩
abbrev S32x1 : Shape := ⟨2, ![32, 1]⟩
abbrev S32x128 : Shape := ⟨2, ![32, 128]⟩
abbrev S32 : Shape := ⟨1, ![32]⟩
abbrev S8x1x1 : Shape := ⟨3, ![8, 1, 1]⟩
abbrev S64x1 : Shape := ⟨2, ![64, 1]⟩
abbrev S1x256x512 : Shape := ⟨3, ![1, 256, 512]⟩
abbrev S1x256x64 : Shape := ⟨3, ![1, 256, 64]⟩
abbrev S256x256 : Shape := ⟨2, ![256, 256]⟩
abbrev S32x256 : Shape := ⟨2, ![32, 256]⟩
abbrev S384x64 : Shape := ⟨2, ![384, 64]⟩
abbrev S256x384 : Shape := ⟨2, ![256, 384]⟩
abbrev S32x384 : Shape := ⟨2, ![32, 384]⟩

abbrev nBuf : Space → Nat
  | .hbm => 9
  | .vmem => 17
  | .smem => 1
  | _ => 0

abbrev bufTy : (tb : Table) → Fin (tcTables nBuf tb) → BufTy
  | .hbm, ⟨0, _⟩ => ⟨S3x384x32x512, .fp8e4m3⟩
  | .hbm, ⟨1, _⟩ => ⟨S3x384x32, .f32⟩
  | .hbm, ⟨2, _⟩ => ⟨S3x384x32x64, .bf16⟩
  | .hbm, ⟨3, _⟩ => ⟨S3x384x512, .fp8e4m3⟩
  | .hbm, ⟨4, _⟩ => ⟨S3x384, .f32⟩
  | .hbm, ⟨5, _⟩ => ⟨S3x384x64, .bf16⟩
  | .hbm, ⟨6, _⟩ => ⟨S3x1x384, .f32⟩
  | .hbm, ⟨7, _⟩ => ⟨S3x384x32x512, .bf16⟩
  | .hbm, ⟨8, _⟩ => ⟨S3x384x32, .f32⟩
  | .local _ .vmem, ⟨0, _⟩ => ⟨S1x64x32x512, .fp8e4m3⟩
  | .local _ .vmem, ⟨1, _⟩ => ⟨S1x64x32x512, .fp8e4m3⟩
  | .local _ .vmem, ⟨2, _⟩ => ⟨S1x64x32, .f32⟩
  | .local _ .vmem, ⟨3, _⟩ => ⟨S1x64x32, .f32⟩
  | .local _ .vmem, ⟨4, _⟩ => ⟨S1x64x32x64, .bf16⟩
  | .local _ .vmem, ⟨5, _⟩ => ⟨S1x64x32x64, .bf16⟩
  | .local _ .vmem, ⟨6, _⟩ => ⟨S1x384x512, .fp8e4m3⟩
  | .local _ .vmem, ⟨7, _⟩ => ⟨S1x384x512, .fp8e4m3⟩
  | .local _ .vmem, ⟨8, _⟩ => ⟨S1x1x384, .f32⟩
  | .local _ .vmem, ⟨9, _⟩ => ⟨S1x1x384, .f32⟩
  | .local _ .vmem, ⟨10, _⟩ => ⟨S1x384x64, .bf16⟩
  | .local _ .vmem, ⟨11, _⟩ => ⟨S1x384x64, .bf16⟩
  | .local _ .vmem, ⟨12, _⟩ => ⟨S1x64x32x512, .bf16⟩
  | .local _ .vmem, ⟨13, _⟩ => ⟨S1x64x32x512, .bf16⟩
  | .local _ .vmem, ⟨14, _⟩ => ⟨S1x64x32, .f32⟩
  | .local _ .vmem, ⟨15, _⟩ => ⟨S1x64x32, .f32⟩
  | .local _ .vmem, ⟨16, _⟩ => ⟨S384x512, .bf16⟩
  | .local _ .smem, ⟨0, _⟩ => ⟨S3, .i32⟩
  | _, _ => ⟨S3x384x32x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_arg6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![3, 6], ![false, false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) (v1 : BitVec 32) : BitVec 1 :=
  let arg1 : BitVec 32 := BitVec.ofNat 32 (i 1).val
  let c64_i32 : BitVec 32 := 64#32
  let v2 : BitVec 32 := Scalar.muli arg1 c64_i32
  let v6 : BitVec 1 := Scalar.cmpi .slt v2 v1
  let c0_i32_1 : BitVec 32 := 0#32
  let v8 : BitVec 1 := Scalar.cmpi .sgt v2 c0_i32_1
  let v9 : BitVec 32 := Scalar.extui v8
  let c0_i32_2 : BitVec 32 := 0#32
  let v10 : BitVec 1 := Scalar.cmpi .slt v2 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v2 c128_i32
  let c0_i32_5 : BitVec 32 := 0#32
  let v20 : BitVec 1 := Scalar.cmpi .ne v19 c0_i32_5
  let v21 : BitVec 1 := Scalar.andi v18 v20
  let v7 : BitVec 32 := Scalar.divsi v2 c128_i32
  let c1_i32 : BitVec 32 := 1#32
  let v22 : BitVec 32 := Scalar.subi v7 c1_i32
  let v23 : BitVec 32 := Scalar.select v21 v22 v7
  let c0_i32_6 : BitVec 32 := 0#32
  let v24 : BitVec 1 := Scalar.cmpi .eq v23 c0_i32_6
  let v25 : BitVec 1 := Scalar.andi v6 v24
  let v26 : BitVec 32 := Scalar.extui v25
  let c0_i32_7 : BitVec 32 := 0#32
  let v27 : BitVec 1 := Scalar.cmpi .ne v26 c0_i32_7
  v27

def k0_cond3 (i : grid0.Coords) (v1 : BitVec 32) : BitVec 1 :=
  let arg1 : BitVec 32 := BitVec.ofNat 32 (i 1).val
  let c64_i32 : BitVec 32 := 64#32
  let v2 : BitVec 32 := Scalar.muli arg1 c64_i32
  let v6 : BitVec 1 := Scalar.cmpi .slt v2 v1
  let c0_i32_9 : BitVec 32 := 0#32
  let v29 : BitVec 1 := Scalar.cmpi .sgt v2 c0_i32_9
  let v30 : BitVec 32 := Scalar.extui v29
  let c0_i32_10 : BitVec 32 := 0#32
  let v31 : BitVec 1 := Scalar.cmpi .slt v2 c0_i32_10
  let v32 : BitVec 32 := Scalar.extui v31
  let v33 : BitVec 32 := Scalar.subi v30 v32
  let c128_i32_8 : BitVec 32 := 128#32
  let c0_i32_11 : BitVec 32 := 0#32
  let v34 : BitVec 1 := Scalar.cmpi .sgt c128_i32_8 c0_i32_11
  let v35 : BitVec 32 := Scalar.extui v34
  let c0_i32_12 : BitVec 32 := 0#32
  let v36 : BitVec 1 := Scalar.cmpi .slt c128_i32_8 c0_i32_12
  let v37 : BitVec 32 := Scalar.extui v36
  let v38 : BitVec 32 := Scalar.subi v35 v37
  let v39 : BitVec 1 := Scalar.cmpi .ne v33 v38
  let v40 : BitVec 32 := Scalar.remsi v2 c128_i32_8
  let c0_i32_13 : BitVec 32 := 0#32
  let v41 : BitVec 1 := Scalar.cmpi .ne v40 c0_i32_13
  let v42 : BitVec 1 := Scalar.andi v39 v41
  let v28 : BitVec 32 := Scalar.divsi v2 c128_i32_8
  let c1_i32_14 : BitVec 32 := 1#32
  let v43 : BitVec 32 := Scalar.subi v28 c1_i32_14
  let v44 : BitVec 32 := Scalar.select v42 v43 v28
  let c1_i32_15 : BitVec 32 := 1#32
  let v45 : BitVec 1 := Scalar.cmpi .eq v44 c1_i32_15
  let v46 : BitVec 1 := Scalar.andi v6 v45
  let v47 : BitVec 32 := Scalar.extui v46
  let c0_i32_16 : BitVec 32 := 0#32
  let v48 : BitVec 1 := Scalar.cmpi .ne v47 c0_i32_16
  v48

def k0_cond4 (i : grid0.Coords) (v1 : BitVec 32) : BitVec 1 :=
  let arg1 : BitVec 32 := BitVec.ofNat 32 (i 1).val
  let c64_i32 : BitVec 32 := 64#32
  let v2 : BitVec 32 := Scalar.muli arg1 c64_i32
  let v6 : BitVec 1 := Scalar.cmpi .slt v2 v1
  let c0_i32_18 : BitVec 32 := 0#32
  let v50 : BitVec 1 := Scalar.cmpi .sgt v2 c0_i32_18
  let v51 : BitVec 32 := Scalar.extui v50
  let c0_i32_19 : BitVec 32 := 0#32
  let v52 : BitVec 1 := Scalar.cmpi .slt v2 c0_i32_19
  let v53 : BitVec 32 := Scalar.extui v52
  let v54 : BitVec 32 := Scalar.subi v51 v53
  let c128_i32_17 : BitVec 32 := 128#32
  let c0_i32_20 : BitVec 32 := 0#32
  let v55 : BitVec 1 := Scalar.cmpi .sgt c128_i32_17 c0_i32_20
  let v56 : BitVec 32 := Scalar.extui v55
  let c0_i32_21 : BitVec 32 := 0#32
  let v57 : BitVec 1 := Scalar.cmpi .slt c128_i32_17 c0_i32_21
  let v58 : BitVec 32 := Scalar.extui v57
  let v59 : BitVec 32 := Scalar.subi v56 v58
  let v60 : BitVec 1 := Scalar.cmpi .ne v54 v59
  let v61 : BitVec 32 := Scalar.remsi v2 c128_i32_17
  let c0_i32_22 : BitVec 32 := 0#32
  let v62 : BitVec 1 := Scalar.cmpi .ne v61 c0_i32_22
  let v63 : BitVec 1 := Scalar.andi v60 v62
  let v49 : BitVec 32 := Scalar.divsi v2 c128_i32_17
  let c1_i32_23 : BitVec 32 := 1#32
  let v64 : BitVec 32 := Scalar.subi v49 c1_i32_23
  let v65 : BitVec 32 := Scalar.select v63 v64 v49
  let c2_i32 : BitVec 32 := 2#32
  let v66 : BitVec 1 := Scalar.cmpi .eq v65 c2_i32
  let v67 : BitVec 1 := Scalar.andi v6 v66
  let v68 : BitVec 32 := Scalar.extui v67
  let c0_i32_24 : BitVec 32 := 0#32
  let v69 : BitVec 1 := Scalar.cmpi .ne v68 c0_i32_24
  v69

def k0_cond5 (i : grid0.Coords) (v1 : BitVec 32) : BitVec 1 :=
  let arg1 : BitVec 32 := BitVec.ofNat 32 (i 1).val
  let c64_i32 : BitVec 32 := 64#32
  let v2 : BitVec 32 := Scalar.muli arg1 c64_i32
  let v6 : BitVec 1 := Scalar.cmpi .slt v2 v1
  let v_true : BitVec 1 := 1#1
  let v70 : BitVec 1 := Scalar.xori v6 v_true
  let v71 : BitVec 32 := Scalar.extui v70
  let c0_i32_25 : BitVec 32 := 0#32
  let v72 : BitVec 1 := Scalar.cmpi .ne v71 c0_i32_25
  v72

def cc0_transform_0 (k0_off1_inb : ∀ i : grid0.Coords, ∀ a, (k0_off1 i) a + S1.size a ≤ S3.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S3) ![v0.toNat] S1.size (k0_off1_inb i)) numel1_S1
  let c1_i32 : BitVec 32 := 1#32
  let v2 : BitVec 32 := Scalar.subi v1 c1_i32
  let c64_i32 : BitVec 32 := 64#32
  let v3 : BitVec 32 := Scalar.divsi v2 c64_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c64_i32 c0_i32_1
  let v10 : BitVec 32 := Scalar.extui v9
  let c0_i32_2 : BitVec 32 := 0#32
  let v11 : BitVec 1 := Scalar.cmpi .slt c64_i32 c0_i32_2
  let v12 : BitVec 32 := Scalar.extui v11
  let v13 : BitVec 32 := Scalar.subi v10 v12
  let v14 : BitVec 1 := Scalar.cmpi .ne v8 v13
  let v15 : BitVec 32 := Scalar.remsi v2 c64_i32
  let c0_i32_3 : BitVec 32 := 0#32
  let v16 : BitVec 1 := Scalar.cmpi .ne v15 c0_i32_3
  let v17 : BitVec 1 := Scalar.andi v14 v16
  let c1_i32_4 : BitVec 32 := 1#32
  let v18 : BitVec 32 := Scalar.subi v3 c1_i32_4
  let v19 : BitVec 32 := Scalar.select v17 v18 v3
  let v20 : BitVec 32 := Scalar.minsi arg1 v19
  let c0_i32_5 : BitVec 32 := 0#32
  let c0_i32_6 : BitVec 32 := 0#32
  let c0_i32_7 : BitVec 32 := 0#32
  ![arg0.toNat, v20.toNat, c0_i32_5.toNat, c0_i32_6.toNat]

def cc0_transform_1 (k0_off1_inb : ∀ i : grid0.Coords, ∀ a, (k0_off1 i) a + S1.size a ≤ S3.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S3) ![v0.toNat] S1.size (k0_off1_inb i)) numel1_S1
  let c1_i32 : BitVec 32 := 1#32
  let v2 : BitVec 32 := Scalar.subi v1 c1_i32
  let c64_i32 : BitVec 32 := 64#32
  let v3 : BitVec 32 := Scalar.divsi v2 c64_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c64_i32 c0_i32_1
  let v10 : BitVec 32 := Scalar.extui v9
  let c0_i32_2 : BitVec 32 := 0#32
  let v11 : BitVec 1 := Scalar.cmpi .slt c64_i32 c0_i32_2
  let v12 : BitVec 32 := Scalar.extui v11
  let v13 : BitVec 32 := Scalar.subi v10 v12
  let v14 : BitVec 1 := Scalar.cmpi .ne v8 v13
  let v15 : BitVec 32 := Scalar.remsi v2 c64_i32
  let c0_i32_3 : BitVec 32 := 0#32
  let v16 : BitVec 1 := Scalar.cmpi .ne v15 c0_i32_3
  let v17 : BitVec 1 := Scalar.andi v14 v16
  let c1_i32_4 : BitVec 32 := 1#32
  let v18 : BitVec 32 := Scalar.subi v3 c1_i32_4
  let v19 : BitVec 32 := Scalar.select v17 v18 v3
  let v20 : BitVec 32 := Scalar.minsi arg1 v19
  let c0_i32_5 : BitVec 32 := 0#32
  let c0_i32_6 : BitVec 32 := 0#32
  ![arg0.toNat, v20.toNat, c0_i32_5.toNat]

def cc0_transform_2 (k0_off1_inb : ∀ i : grid0.Coords, ∀ a, (k0_off1 i) a + S1.size a ≤ S3.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S3) ![v0.toNat] S1.size (k0_off1_inb i)) numel1_S1
  let c1_i32 : BitVec 32 := 1#32
  let v2 : BitVec 32 := Scalar.subi v1 c1_i32
  let c64_i32 : BitVec 32 := 64#32
  let v3 : BitVec 32 := Scalar.divsi v2 c64_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c64_i32 c0_i32_1
  let v10 : BitVec 32 := Scalar.extui v9
  let c0_i32_2 : BitVec 32 := 0#32
  let v11 : BitVec 1 := Scalar.cmpi .slt c64_i32 c0_i32_2
  let v12 : BitVec 32 := Scalar.extui v11
  let v13 : BitVec 32 := Scalar.subi v10 v12
  let v14 : BitVec 1 := Scalar.cmpi .ne v8 v13
  let v15 : BitVec 32 := Scalar.remsi v2 c64_i32
  let c0_i32_3 : BitVec 32 := 0#32
  let v16 : BitVec 1 := Scalar.cmpi .ne v15 c0_i32_3
  let v17 : BitVec 1 := Scalar.andi v14 v16
  let c1_i32_4 : BitVec 32 := 1#32
  let v18 : BitVec 32 := Scalar.subi v3 c1_i32_4
  let v19 : BitVec 32 := Scalar.select v17 v18 v3
  let v20 : BitVec 32 := Scalar.minsi arg1 v19
  let c0_i32_5 : BitVec 32 := 0#32
  let c0_i32_6 : BitVec 32 := 0#32
  let c0_i32_7 : BitVec 32 := 0#32
  ![arg0.toNat, v20.toNat, c0_i32_5.toNat, c0_i32_6.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x32x512 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x32x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x384x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x384x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x64x32x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | "scale_log2e" => some (((Real.sqrt 192)⁻¹ * (Real.log 2)⁻¹ : ℝ) : EReal)
  | _ => none
-- ==== ReferenceIdeal.lean ====
abbrev S3x384x32x512 : Shape := ⟨4, ![3, 384, 32, 512]⟩
abbrev S3x384x32 : Shape := ⟨3, ![3, 384, 32]⟩
abbrev S3x384x32x64 : Shape := ⟨4, ![3, 384, 32, 64]⟩
abbrev S3x384x512 : Shape := ⟨3, ![3, 384, 512]⟩
abbrev S3x384 : Shape := ⟨2, ![3, 384]⟩
abbrev S3x384x64 : Shape := ⟨3, ![3, 384, 64]⟩
abbrev S3 : Shape := ⟨1, ![3]⟩
abbrev S3x12288x512 : Shape := ⟨3, ![3, 12288, 512]⟩
abbrev S3x12288x64 : Shape := ⟨3, ![3, 12288, 64]⟩
abbrev S3x12288x384 : Shape := ⟨3, ![3, 12288, 384]⟩
abbrev S3x384x32x384 : Shape := ⟨4, ![3, 384, 32, 384]⟩
abbrev S3x384x32x1 : Shape := ⟨4, ![3, 384, 32, 1]⟩
abbrev S3x1x1x384 : Shape := ⟨4, ![3, 1, 1, 384]⟩
abbrev S3x1x1x1 : Shape := ⟨4, ![3, 1, 1, 1]⟩
abbrev S3x1x1 : Shape := ⟨3, ![3, 1, 1]⟩

abbrev nBuf : Space → Nat
  | .hbm => 9
  | .vmem => 9
  | .smem => 0
  | _ => 0

abbrev bufTy : (tb : Table) → Fin (tcTables nBuf tb) → BufTy
  | .hbm, ⟨0, _⟩ => ⟨S3x384x32x512, .fp8e4m3⟩
  | .hbm, ⟨1, _⟩ => ⟨S3x384x32, .f32⟩
  | .hbm, ⟨2, _⟩ => ⟨S3x384x32x64, .bf16⟩
  | .hbm, ⟨3, _⟩ => ⟨S3x384x512, .fp8e4m3⟩
  | .hbm, ⟨4, _⟩ => ⟨S3x384, .f32⟩
  | .hbm, ⟨5, _⟩ => ⟨S3x384x64, .bf16⟩
  | .hbm, ⟨6, _⟩ => ⟨S3, .i32⟩
  | .hbm, ⟨7, _⟩ => ⟨S3x384x32x512, .bf16⟩
  | .hbm, ⟨8, _⟩ => ⟨S3x384x32, .f32⟩
  | .local _ .vmem, ⟨0, _⟩ => ⟨S3x384x32x512, .fp8e4m3⟩
  | .local _ .vmem, ⟨1, _⟩ => ⟨S3x384x32, .f32⟩
  | .local _ .vmem, ⟨2, _⟩ => ⟨S3x384x32x64, .bf16⟩
  | .local _ .vmem, ⟨3, _⟩ => ⟨S3x384x512, .fp8e4m3⟩
  | .local _ .vmem, ⟨4, _⟩ => ⟨S3x384, .f32⟩
  | .local _ .vmem, ⟨5, _⟩ => ⟨S3x384x64, .bf16⟩
  | .local _ .vmem, ⟨6, _⟩ => ⟨S3, .i32⟩
  | .local _ .vmem, ⟨7, _⟩ => ⟨S3x384x32x512, .bf16⟩
  | .local _ .vmem, ⟨8, _⟩ => ⟨S3x384x32, .f32⟩
  | _, _ => ⟨S3x384x32x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F] [Named F]

def κ : String → Option EReal := fun
  | "sm_scale" => some (((Real.sqrt 192)⁻¹ : ℝ) : EReal)
  | _ => none

abbrev grid0 : Pipeline.Grid := .none

abbrev stage0_0 : Fin 1 → Memref sig .tc .vmem S3x384x32x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x384x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x384x32x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x384x512 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x384x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x384x32x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x384x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Payload.lean ====
/- What the kernel computes between its loads and its stores, as functions of the loaded values: the score block of one
   token against 128 keys, its softmax row, the weights of eight tokens, and the two stored blocks. The functions are
   stated once, over the number of keys `nk`, the chunk `j` and the token `t`, and over the three constants, so that
   the printed kernel and its ideal form share them. -/
module

public import Idealize.ShloMosaic.PureOps
public import Idealize.ShloMosaic.Lib.VecWindow

@[expose] public section

noncomputable section

namespace Cert.Mla

open Idealize.ShloMosaic

/-- The shape of a matrix. -/
abbrev Mat (a b : ℕ) : Shape := ⟨2, ![a, b]⟩

/-- A matrix's block at `(r, k)`. -/
theorem slices_mat {a b a' b' r k : ℕ} (hr : r + a' ≤ a) (hk : k + b' ≤ b) : (Mat a b).Slices ![r, k] (Mat a' b') :=
  ⟨rfl, fun x => by
    match x with
    | ⟨0, _⟩ => exact hr
    | ⟨1, _⟩ => exact hk⟩

/-- Eight matrices of 32 rows, end to end, are one of 256 rows. -/
theorem concat8 (nk : ℕ) : Shape.Concatenates [Mat 32 nk, Mat 32 nk, Mat 32 nk, Mat 32 nk, Mat 32 nk, Mat 32 nk, Mat 32 nk, Mat 32 nk]
    (Mat 256 nk) 0 := by
  refine ⟨by simp, ?_, by rfl⟩
  intro s hs
  have : s = Mat 32 nk := by simpa using hs
  subst this
  refine ⟨rfl, fun b hb => ?_⟩
  match b with
  | ⟨0, _⟩ => exact absurd rfl hb
  | ⟨1, _⟩ => rfl

/-- Two blocks of keys side by side, and three. -/
theorem concat2 : Shape.Concatenates [Mat 32 128, Mat 32 128] (Mat 32 256) 1 := by decide
theorem concat3 : Shape.Concatenates [Mat 32 128, Mat 32 128, Mat 32 128] (Mat 32 384) 1 := by decide

variable {F : FTy → Type} [FloatOps F]

/-! ## One token -/

/-- The column `tok` of the transposed scales. -/
def qCol (qs : FVec F (Mat 32 64) .f32) (tok : ℕ) (h : tok < 64) : FVec F (Mat 32 1) .f32 :=
  extractStridedSlice (Mat 32 1) ![0, tok] qs (slices_mat (by decide) h)

/-- The 128 key scales from `k`. -/
def csBlk (cs : FVec F (Mat 1 384) .f32) (k : ℕ) (h : k + 128 ≤ 384) : FVec F (Mat 1 128) .f32 :=
  extractStridedSlice (Mat 1 128) ![0, k] cs (slices_mat (by decide) h)

/-- The scores of the 32 heads at row `r` against the 128 keys from `k`. -/
def score (C : F .f32) {nk : ℕ} (slat srop : FVec F (Mat 256 nk) .f32) (q : FVec F (Mat 32 1) .f32)
    (cs : FVec F (Mat 1 128) .f32) (r k : ℕ) (hr : r + 32 ≤ 256) (hk : k + 128 ≤ nk) : FVec F (Mat 32 128) .f32 :=
  addf
    (mulf
      (mulf (extractStridedSlice (Mat 32 128) ![r, k] slat (slices_mat hr hk)) (broadcastTo (Mat 32 128) q (by decide)))
      (broadcastTo (Mat 32 128) cs (by decide)))
    (mulf (extractStridedSlice (Mat 32 128) ![r, k] srop (slices_mat hr hk)) (broadcast (Mat 32 128) C))

/-- The keys after the token's position read minus infinity. -/
def maskKeys (key : IVec (Mat 1 128) 32) (pos : BitVec 32) (s : FVec F (Mat 32 128) .f32) : FVec F (Mat 32 128) .f32 :=
  select
    (broadcastTo (Mat 32 128) (shapeCast (Mat 1 128) (cmpi .sle key (broadcast (Mat 1 128) pos)) (by decide)) (by decide))
    s (broadcast (Mat 32 128) (Scalar.ofBits .f32 0xFF800000#32 : F .f32))

/-- Each head's maximum. -/
def rowMax (s : FVec F (Mat 32 128) .f32) : FVec F (Mat 32 1) .f32 :=
  shapeCast (Mat 32 1) (multiReduction .maximumf [1] ⟨1, ![32]⟩ s 0xFF800000#32 (by decide) (.inl rfl) rfl) (by decide)

/-- Each head's sum. -/
def rowSum (s : FVec F (Mat 32 128) .f32) : FVec F (Mat 32 1) .f32 :=
  shapeCast (Mat 32 1) (multiReduction .add [1] ⟨1, ![32]⟩ s 0x00000000#32 (by decide) (.inl rfl) rfl) (by decide)

/-- The exponentials of a block against the maxima. -/
def expBlk (s : FVec F (Mat 32 128) .f32) (m : FVec F (Mat 32 1) .f32) : FVec F (Mat 32 128) .f32 :=
  exp2 (subf s (broadcastTo (Mat 32 128) m (by decide)))

/-- The log-sum-exp of a token's heads from the maxima and the sums. -/
def lseCol (L N : F .f32) (m l : FVec F (Mat 32 1) .f32) : FVec F (Mat 32 1) .f32 :=
  mulf (addf m (mulf (log l) (broadcast (Mat 32 1) L))) (broadcast (Mat 32 1) N)

/-- The weights of a block: the exponentials over their sum, times the key scales, as bf16. -/
def wBlk (e : FVec F (Mat 32 128) .f32) (l : FVec F (Mat 32 1) .f32) (cs : FVec F (Mat 1 128) .f32) :
    FVec F (Mat 32 128) .bf16 :=
  truncf .bf16
    (mulf
      (mulf e (broadcastTo (Mat 32 128) (divf (broadcast (Mat 32 1) (Scalar.ofBits .f32 0x3F800000#32 : F .f32)) l) (by decide)))
      (broadcastTo (Mat 32 128) cs (by decide))) (by decide)

/-- The keys' positions in the block from `k`. -/
def keyRow (k : BitVec 32) : IVec (Mat 1 128) 32 :=
  addi (iota .tc (Mat 1 128) 32 [1] (by decide)) (broadcast (Mat 1 128) k)

/-- What a token's row yields: the maxima, the sums, and the weights. -/
structure Row (F : FTy → Type) (nk : ℕ) where
  m : FVec F (Mat 32 1) .f32
  l : FVec F (Mat 32 1) .f32
  w : FVec F (Mat 32 nk) .bf16

/-- What every token's row reads: the scales, the constant, and the first position of the window. -/
structure Ctx (F : FTy → Type) where
  C : F .f32
  qs : FVec F (Mat 32 64) .f32
  cs : FVec F (Mat 1 384) .f32
  t0 : BitVec 32

/-- A token's position. -/
abbrev tokPos (x : Ctx F) (tok : ℕ) : BitVec 32 := Scalar.addi x.t0 (BitVec.ofNat 32 tok)

/-- A token over one block of keys. -/
def row1 (x : Ctx F) (slat srop : FVec F (Mat 256 128) .f32) (j t : ℕ) (hj : j < 8) (ht : t < 8) : Row F 128 :=
  let q := qCol x.qs (8 * j + t) (by omega)
  let c0 := csBlk x.cs 0 (by omega)
  let s0 := maskKeys (keyRow 0#32) (tokPos x (8 * j + t)) (score x.C slat srop q c0 (32 * t) 0 (by omega) (by omega))
  let m := rowMax s0
  let e0 := expBlk s0 m
  let l := rowSum e0
  ⟨m, l, wBlk e0 l c0⟩

/-- A token over two blocks of keys. -/
def row2 (x : Ctx F) (slat srop : FVec F (Mat 256 256) .f32) (j t : ℕ) (hj : j < 8) (ht : t < 8) : Row F 256 :=
  let q := qCol x.qs (8 * j + t) (by omega)
  let c0 := csBlk x.cs 0 (by omega)
  let c1 := csBlk x.cs 128 (by omega)
  let s0 := score x.C slat srop q c0 (32 * t) 0 (by omega) (by omega)
  let s1 := maskKeys (keyRow 128#32) (tokPos x (8 * j + t)) (score x.C slat srop q c1 (32 * t) 128 (by omega) (by omega))
  let m := rowMax (maximumf s0 s1)
  let e0 := expBlk s0 m
  let e1 := expBlk s1 m
  let l := rowSum (addf e0 e1)
  ⟨m, l, concatenate (Mat 32 256) 1 [⟨Mat 32 128, wBlk e0 l c0⟩, ⟨Mat 32 128, wBlk e1 l c1⟩] concat2⟩

/-- A token over three blocks of keys. -/
def row3 (x : Ctx F) (slat srop : FVec F (Mat 256 384) .f32) (j t : ℕ) (hj : j < 8) (ht : t < 8) : Row F 384 :=
  let q := qCol x.qs (8 * j + t) (by omega)
  let c0 := csBlk x.cs 0 (by omega)
  let c1 := csBlk x.cs 128 (by omega)
  let c2 := csBlk x.cs 256 (by omega)
  let s0 := score x.C slat srop q c0 (32 * t) 0 (by omega) (by omega)
  let s1 := score x.C slat srop q c1 (32 * t) 128 (by omega) (by omega)
  let s2 := maskKeys (keyRow 256#32) (tokPos x (8 * j + t)) (score x.C slat srop q c2 (32 * t) 256 (by omega) (by omega))
  let m := rowMax (maximumf (maximumf s0 s1) s2)
  let e0 := expBlk s0 m
  let e1 := expBlk s1 m
  let e2 := expBlk s2 m
  let l := rowSum (addf (addf e0 e1) e2)
  ⟨m, l, concatenate (Mat 32 384) 1 [⟨Mat 32 128, wBlk e0 l c0⟩, ⟨Mat 32 128, wBlk e1 l c1⟩, ⟨Mat 32 128, wBlk e2 l c2⟩] concat3⟩

/-! ## Eight tokens: a chunk -/

/-- A chunk's query rows against the keys. -/
def latScores {nk : ℕ} (q : Vec F ⟨4, ![1, 8, 32, 512]⟩ .fp8e4m3) (k : FVec F (Mat nk 512) .fp8e4m3) : FVec F (Mat 256 nk) .f32 :=
  matmul (DotDims.transposedRhs 256 512 nk) none
    (shapeCast (Mat 256 512) (shapeCast ⟨3, ![8, 32, 512]⟩ q (by decide)) (by decide)) k (constant (Mat 256 nk) .f32 0x00000000#32)

/-- The same of the rotary rows. -/
def ropeScores {nk : ℕ} (q : Vec F ⟨4, ![1, 8, 32, 64]⟩ .bf16) (k : FVec F (Mat nk 64) .bf16) : FVec F (Mat 256 nk) .f32 :=
  matmul (DotDims.transposedRhs 256 64 nk) none
    (shapeCast (Mat 256 64) (shapeCast ⟨3, ![8, 32, 64]⟩ q (by decide)) (by decide)) k (constant (Mat 256 nk) .f32 0x00000000#32)

/-- Eight tokens' weights, one under the other. -/
def rows8 {nk : ℕ} (w : (t : ℕ) → t < 8 → FVec F (Mat 32 nk) .bf16) : FVec F (Mat 256 nk) .bf16 :=
  concatenate (Mat 256 nk) 0
    [⟨Mat 32 nk, w 0 (by decide)⟩, ⟨Mat 32 nk, w 1 (by decide)⟩, ⟨Mat 32 nk, w 2 (by decide)⟩, ⟨Mat 32 nk, w 3 (by decide)⟩,
     ⟨Mat 32 nk, w 4 (by decide)⟩, ⟨Mat 32 nk, w 5 (by decide)⟩, ⟨Mat 32 nk, w 6 (by decide)⟩, ⟨Mat 32 nk, w 7 (by decide)⟩] (concat8 nk)

/-- The chunk's output block: the weighted cached rows, zero from position `n` on. -/
def outChunk {nk : ℕ} (n t0 : BitVec 32) (j : ℕ) (w : FVec F (Mat 256 nk) .bf16) (cb : Vec F (Mat nk 512) .bf16) :
    FVec F ⟨4, ![1, 8, 32, 512]⟩ .bf16 :=
  shapeCast ⟨4, ![1, 8, 32, 512]⟩
    (select
      (broadcastTo ⟨3, ![8, 32, 512]⟩
        (shapeCast ⟨3, ![8, 1, 1]⟩
          (cmpi .slt
            (addi (iota .tc ⟨3, ![8, 1, 1]⟩ 32 [0] (by decide)) (broadcast ⟨3, ![8, 1, 1]⟩ (Scalar.addi t0 (BitVec.ofNat 32 (8 * j)))))
            (broadcast ⟨3, ![8, 1, 1]⟩ n)) (by decide)) (by decide))
      (shapeCast ⟨3, ![8, 32, 512]⟩
        (truncf .bf16 (matmul (DotDims.plain 256 nk 512) none w cb (constant (Mat 256 512) .f32 0x00000000#32)) (by decide)) (by decide))
      (broadcast ⟨3, ![8, 32, 512]⟩ (Scalar.ofBits .bf16 0x0000#16 : F .bf16))) (by decide)

/-- A token's log-sum-exp written into its column. -/
def putCol (tok : ℕ) (v : FVec F (Mat 32 1) .f32) (acc : FVec F (Mat 32 64) .f32) : FVec F (Mat 32 64) .f32 :=
  select (cmpi .eq (iota .tc (Mat 32 64) 32 [1] (by decide)) (broadcast (Mat 32 64) (BitVec.ofNat 32 tok)))
    (broadcastTo (Mat 32 64) (shapeCast (Mat 32 1) v (by decide)) (by decide)) acc

/-- A chunk's eight columns written. -/
def putChunk (j : ℕ) (v : (t : ℕ) → t < 8 → FVec F (Mat 32 1) .f32) (acc : FVec F (Mat 32 64) .f32) : FVec F (Mat 32 64) .f32 :=
  putCol (8 * j + 7) (v 7 (by decide)) (putCol (8 * j + 6) (v 6 (by decide)) (putCol (8 * j + 5) (v 5 (by decide))
    (putCol (8 * j + 4) (v 4 (by decide)) (putCol (8 * j + 3) (v 3 (by decide)) (putCol (8 * j + 2) (v 2 (by decide))
      (putCol (8 * j + 1) (v 1 (by decide)) (putCol (8 * j + 0) (v 0 (by decide)) acc)))))))

/-- The log-sum-exp block stored: the columns transposed, zero from position `n` on. -/
def outLse (n t0 : BitVec 32) (acc : FVec F (Mat 32 64) .f32) : FVec F ⟨3, ![1, 64, 32]⟩ .f32 :=
  shapeCast ⟨3, ![1, 64, 32]⟩
    (select
      (broadcastTo (Mat 64 32)
        (shapeCast (Mat 64 1)
          (cmpi .slt (addi (iota .tc (Mat 64 1) 32 [0] (by decide)) (broadcast (Mat 64 1) t0)) (broadcast (Mat 64 1) n)) (by decide)) (by decide))
      (transpose (Mat 64 32) [1, 0] acc (by decide))
      (broadcast (Mat 64 32) (Scalar.ofBits .f32 0x00000000#32 : F .f32))) (by decide)

/-- The scales as every token reads them: transposed, times the constant. -/
def scaledQs (C : F .f32) (qs : Vec F ⟨3, ![1, 64, 32]⟩ .f32) : FVec F (Mat 32 64) .f32 :=
  mulf (transpose (Mat 32 64) [1, 0] (shapeCast (Mat 64 32) qs (by decide)) (by decide)) (broadcast (Mat 32 64) C)

/-- The key scales as a row. -/
def csRow (cs : Vec F ⟨3, ![1, 1, 384]⟩ .f32) : FVec F (Mat 1 384) .f32 := shapeCast (Mat 1 384) cs (by decide)

/-- The first position of window `i`. -/
def startPos (i : ℕ) : BitVec 32 := Scalar.muli (BitVec.ofNat 32 i) 64#32

/-- The codes widened, as the scratch holds them. -/
def widen (c : Vec F ⟨3, ![1, 384, 512]⟩ .fp8e4m3) : FVec F (Mat 384 512) .bf16 :=
  shapeCast (Mat 384 512) (extf .bf16 (shapeCast (Mat 384 512) c (by decide)) (by decide)) (by decide)

/-! ## A window -/

/-- A chunk's rows of a query window lie in it. -/
theorem inb_chunk (d j : ℕ) (hj : j < 8) :
    ∀ a, (![0, 8 * j, 0, 0] : Fin 4 → ℕ) a + (⟨4, ![1, 8, 32, d]⟩ : Shape).size a ≤ (⟨4, ![1, 64, 32, d]⟩ : Shape).size a
  | ⟨0, _⟩ => by show 0 + 1 ≤ 1; omega
  | ⟨1, _⟩ => by show 8 * j + 8 ≤ 64; omega
  | ⟨2, _⟩ => by show 0 + 32 ≤ 32; omega
  | ⟨3, _⟩ => by show 0 + d ≤ d; omega

/-- The first `nk` rows of a key window lie in it. -/
theorem inb_keys (d nk : ℕ) (h : nk ≤ 384) :
    ∀ a, (![0, 0, 0] : Fin 3 → ℕ) a + (⟨3, ![1, nk, d]⟩ : Shape).size a ≤ (⟨3, ![1, 384, d]⟩ : Shape).size a
  | ⟨0, _⟩ => by show 0 + 1 ≤ 1; omega
  | ⟨1, _⟩ => by show 0 + nk ≤ 384; omega
  | ⟨2, _⟩ => by show 0 + d ≤ d; omega

theorem inb_cb (nk : ℕ) (h : nk ≤ 384) :
    ∀ a, (![0, 0] : Fin 2 → ℕ) a + (Mat nk 512).size a ≤ (Mat 384 512).size a
  | ⟨0, _⟩ => by show 0 + nk ≤ 384; omega
  | ⟨1, _⟩ => by show 0 + 512 ≤ 512; omega

theorem numel_keys (d nk : ℕ) (hd : 0 < d) (h : 0 < nk) : 0 < (⟨3, ![1, nk, d]⟩ : Shape).numel := by
  simp [Shape.numel, Fin.prod_univ_succ]; first | exact Nat.mul_pos h hd | exact ⟨h, hd⟩

theorem numel_cb (nk : ℕ) (h : 0 < nk) : 0 < (Mat nk 512).numel := by
  simp [Shape.numel, Fin.prod_univ_succ]; exact h

/-- A token's row over `nk` keys: what `attend` is stated over. -/
abbrev RowFn (F : FTy → Type) (nk : ℕ) : Type :=
  Ctx F → FVec F (Mat 256 nk) .f32 → FVec F (Mat 256 nk) .f32 → (j t : ℕ) → j < 8 → t < 8 → Row F nk

/-- The short form of the first `nk` rows of a window, its leading axis dropped. -/
def dropLead {α : Type} (d nk : ℕ) (x : Shape.Idx ⟨3, ![1, nk, d]⟩ → α) : Shape.Idx (Mat nk d) → α :=
  shapeCast (Mat nk d) x (by simp [Shape.ShapeCasts, Shape.numel, Fin.prod_univ_succ])

/-- The window of all of `x` is `x`. -/
theorem window_full {α : Type} {s : Shape} (x : s.Idx → α) {off : Fin s.rank → ℕ} (inb : ∀ a, off a + s.size a ≤ s.size a) :
    VecWindow.window x off s.size inb = x :=
  funext fun y => congrArg x (funext fun a => Fin.ext (by
    show off a + 1 * (y a).val = (y a).val
    have := inb a; omega))

/-- The blocks a grid point reads: query codes, their scales, rotary queries; cached codes, their scales, rotary keys. -/
structure Ins (F : FTy → Type) where
  q : Vec F ⟨4, ![1, 64, 32, 512]⟩ .fp8e4m3
  qs : Vec F ⟨3, ![1, 64, 32]⟩ .f32
  qr : Vec F ⟨4, ![1, 64, 32, 64]⟩ .bf16
  c : Vec F ⟨3, ![1, 384, 512]⟩ .fp8e4m3
  cs : Vec F ⟨3, ![1, 1, 384]⟩ .f32
  kr : Vec F ⟨3, ![1, 384, 64]⟩ .bf16

/-- A chunk's rows of a query block. -/
def chunkQ {e : EltTy} {d : ℕ} (q : Vec F ⟨4, ![1, 64, 32, d]⟩ e) (j : ℕ) (hj : j < 8) : Vec F ⟨4, ![1, 8, 32, d]⟩ e :=
  VecWindow.window q ![0, 8 * j, 0, 0] ![1, 8, 32, d] (inb_chunk d j hj)

/-- The first `nk` rows of a key block. -/
def keysOf {e : EltTy} {d : ℕ} (nk : ℕ) (h : nk ≤ 384) (k : Vec F ⟨3, ![1, 384, d]⟩ e) : Vec F (Mat nk d) e :=
  dropLead d nk (VecWindow.window k ![0, 0, 0] ![1, nk, d] (inb_keys d nk h))

/-- The first `nk` rows of the scratch. -/
def cbOf (nk : ℕ) (h : nk ≤ 384) (s : Vec F (Mat 384 512) .bf16) : Vec F (Mat nk 512) .bf16 :=
  VecWindow.window s ![0, 0] ![nk, 512] (inb_cb nk h)

/-- A chunk's row of token `t`. -/
def chunkRow {nk : ℕ} (row : RowFn F nk) (x : Ctx F) (ck : FVec F (Mat nk 512) .fp8e4m3) (kr : FVec F (Mat nk 64) .bf16)
    (q : Vec F ⟨4, ![1, 64, 32, 512]⟩ .fp8e4m3) (qr : Vec F ⟨4, ![1, 64, 32, 64]⟩ .bf16) (j : ℕ) (hj : j < 8) (t : ℕ) (ht : t < 8) : Row F nk :=
  row x (latScores (chunkQ q j hj) ck) (ropeScores (chunkQ qr j hj) kr) j t hj ht

/-- A chunk's output block. -/
def chunkOut {nk : ℕ} (row : RowFn F nk) (x : Ctx F) (n : BitVec 32) (ck : FVec F (Mat nk 512) .fp8e4m3) (kr : FVec F (Mat nk 64) .bf16)
    (cb : Vec F (Mat nk 512) .bf16) (q : Vec F ⟨4, ![1, 64, 32, 512]⟩ .fp8e4m3) (qr : Vec F ⟨4, ![1, 64, 32, 64]⟩ .bf16) (j : ℕ) (hj : j < 8) :
    FVec F ⟨4, ![1, 8, 32, 512]⟩ .bf16 :=
  outChunk n x.t0 j (rows8 fun t ht => (chunkRow row x ck kr q qr j hj t ht).w) cb

/-- The log-sum-exp columns with a chunk's put in. -/
def chunkLse {nk : ℕ} (L N : F .f32) (row : RowFn F nk) (x : Ctx F) (ck : FVec F (Mat nk 512) .fp8e4m3) (kr : FVec F (Mat nk 64) .bf16)
    (q : Vec F ⟨4, ![1, 64, 32, 512]⟩ .fp8e4m3) (qr : Vec F ⟨4, ![1, 64, 32, 64]⟩ .bf16) (j : ℕ) (hj : j < 8)
    (acc : FVec F (Mat 32 64) .f32) : FVec F (Mat 32 64) .f32 :=
  putChunk j (fun t ht => lseCol L N (chunkRow row x ck kr q qr j hj t ht).m (chunkRow row x ck kr q qr j hj t ht).l) acc

/-- A window's eight output chunks, one under the other. -/
def oAll (g : (j : ℕ) → j < 8 → FVec F ⟨4, ![1, 8, 32, 512]⟩ .bf16) : FVec F ⟨4, ![1, 64, 32, 512]⟩ .bf16 := fun y =>
  g ((y 1).val / 8) (by have : (y 1).val < 64 := (y 1).isLt; omega)
    (fun a => match a with
      | ⟨0, _⟩ => y 0
      | ⟨1, _⟩ => ⟨(y 1).val % 8, Nat.mod_lt _ (by decide)⟩
      | ⟨2, _⟩ => y 2
      | ⟨3, _⟩ => y 3)

/-- What a block holds after the first `k` chunks are stored into it. -/
def outs (g : (j : ℕ) → j < 8 → FVec F ⟨4, ![1, 8, 32, 512]⟩ .bf16) (o : FVec F ⟨4, ![1, 64, 32, 512]⟩ .bf16) :
    (k : ℕ) → k ≤ 8 → FVec F ⟨4, ![1, 64, 32, 512]⟩ .bf16
  | 0, _ => o
  | k + 1, h => VecWindow.put (outs g o k (Nat.le_of_succ_le h)) ![0, 8 * k, 0, 0] ![1, 8, 32, 512] (g k h)

/-- The rows below `8 k` are the chunks'. -/
theorem outs_below (g : (j : ℕ) → j < 8 → FVec F ⟨4, ![1, 8, 32, 512]⟩ .bf16) (o : FVec F ⟨4, ![1, 64, 32, 512]⟩ .bf16) (k : ℕ) (hk : k ≤ 8)
    (y : Shape.Idx ⟨4, ![1, 64, 32, 512]⟩) (hy : (y 1).val < 8 * k) : outs g o k hk y = oAll g y := by
  induction k with
  | zero => omega
  | succ k ih =>
    show VecWindow.put (outs g o k _) ![0, 8 * k, 0, 0] ![1, 8, 32, 512] (g k hk) y = _
    unfold VecWindow.put
    have h0 : (y 0).val < 1 := (y 0).isLt
    have h2 : (y 2).val < 32 := (y 2).isLt
    have h3 : (y 3).val < 512 := (y 3).isLt
    by_cases h : 8 * k ≤ (y 1).val
    · rw [dif_pos (fun a => by
        match a with
        | ⟨0, _⟩ => show 0 ≤ (y 0).val ∧ (y 0).val < 0 + 1; omega
        | ⟨1, _⟩ => show 8 * k ≤ (y 1).val ∧ (y 1).val < 8 * k + 8; omega
        | ⟨2, _⟩ => show 0 ≤ (y 2).val ∧ (y 2).val < 0 + 32; omega
        | ⟨3, _⟩ => show 0 ≤ (y 3).val ∧ (y 3).val < 0 + 512; omega)]
      unfold oAll
      have hd : (y 1).val / 8 = k := by omega
      subst hd
      refine congrArg (g _ _) (funext fun a => Fin.ext ?_)
      match a with
      | ⟨0, _⟩ => rfl
      | ⟨1, _⟩ => show (y 1).val - 8 * ((y 1).val / 8) = (y 1).val % 8; omega
      | ⟨2, _⟩ => rfl
      | ⟨3, _⟩ => rfl
    · rw [dif_neg (fun hall => h (hall 1).1)]
      exact ih (Nat.le_of_succ_le hk) (by omega)

/-- After all eight chunks the block is the chunks', whatever it held. -/
theorem outs_all (g : (j : ℕ) → j < 8 → FVec F ⟨4, ![1, 8, 32, 512]⟩ .bf16) (o : FVec F ⟨4, ![1, 64, 32, 512]⟩ .bf16) :
    outs g o 8 (by decide) = oAll g :=
  funext fun y => outs_below g o 8 _ y (by have : (y 1).val < 64 := (y 1).isLt; omega)

/-- The log-sum-exp columns after the first `k` chunks. -/
def accs (f : (j : ℕ) → j < 8 → FVec F (Mat 32 64) .f32 → FVec F (Mat 32 64) .f32) : (k : ℕ) → k ≤ 8 → FVec F (Mat 32 64) .f32
  | 0, _ => broadcast (Mat 32 64) (Scalar.ofBits .f32 0x00000000#32 : F .f32)
  | k + 1, h => f k h (accs f k (Nat.le_of_succ_le h))

/-- What a window's rows read. -/
abbrev ctxOf (C : F .f32) (I : Ins F) (t0 : BitVec 32) : Ctx F := ⟨C, scaledQs C I.qs, csRow I.cs, t0⟩

/-- The output block of a window attended over the first `nk` keys, from the widened codes `s`. -/
def attO (C : F .f32) (nk : ℕ) (h : nk ≤ 384) (row : RowFn F nk) (n t0 : BitVec 32) (I : Ins F) (s : Vec F (Mat 384 512) .bf16) :
    FVec F ⟨4, ![1, 64, 32, 512]⟩ .bf16 :=
  oAll fun j hj => chunkOut row (ctxOf C I t0) n (keysOf nk h I.c) (keysOf nk h I.kr) (cbOf nk h s) I.q I.qr j hj

/-- Its log-sum-exp block. -/
def attE (C L N : F .f32) (nk : ℕ) (h : nk ≤ 384) (row : RowFn F nk) (n t0 : BitVec 32) (I : Ins F) : FVec F ⟨3, ![1, 64, 32]⟩ .f32 :=
  outLse n t0 (accs (fun j hj => chunkLse L N row (ctxOf C I t0) (keysOf nk h I.c) (keysOf nk h I.kr) I.q I.qr j hj) 8 (by decide))

/-- The output block of window `i1` at length `n`: over 128, 256 or 384 keys, or zeros past the end. -/
def stepO (C : F .f32) (i1 : ℕ) (n : BitVec 32) (I : Ins F) (s : Vec F (Mat 384 512) .bf16) : FVec F ⟨4, ![1, 64, 32, 512]⟩ .bf16 :=
  if Scalar.cmpi .slt (startPos i1) n = 1#1 then
    if i1 / 2 = 0 then attO C 128 (by decide) row1 n (startPos i1) I s
    else if i1 / 2 = 1 then attO C 256 (by decide) row2 n (startPos i1) I s
    else attO C 384 (by decide) row3 n (startPos i1) I s
  else broadcast ⟨4, ![1, 64, 32, 512]⟩ (Scalar.ofBits .bf16 0x0000#16 : F .bf16)

/-- The log-sum-exp block of window `i1` at length `n`. -/
def stepE (C L N : F .f32) (i1 : ℕ) (n : BitVec 32) (I : Ins F) : FVec F ⟨3, ![1, 64, 32]⟩ .f32 :=
  if Scalar.cmpi .slt (startPos i1) n = 1#1 then
    if i1 / 2 = 0 then attE C L N 128 (by decide) row1 n (startPos i1) I
    else if i1 / 2 = 1 then attE C L N 256 (by decide) row2 n (startPos i1) I
    else attE C L N 384 (by decide) row3 n (startPos i1) I
  else broadcast ⟨3, ![1, 64, 32]⟩ (Scalar.ofBits .f32 0x00000000#32 : F .f32)

end Cert.Mla
end
-- ==== Proof.Kernel.Body.lean ====
/- The kernel's body in short form: one window attended over the first `nk` keys (`attend`), eight tokens at a time
   (`chunk`), or a window past the sequence's end zeroed (`pad`) — and the printed body IS this form (`body_eq`). -/
module

public import proofs.«01_k».proof.Proof.Payload
public import proofs.«01_k».proof.Proof.Gen.Kernel.Launch
public import Idealize.ShloMosaic.Lib.Pipeline.Regions

@[expose] public section

noncomputable section

namespace Cert.Kernel.Body

open Idealize.ShloMosaic Idealize.ShloMosaic.TcCoe Idealize.SL.Sem
open Cert.Kernel Cert.Mla Facts₀ Facts

variable {F : FTy → Type} [FloatOps F]

/-- The kernel's three constants: the score scale times log₂ e, log₂ e, and the logarithm of two. -/
abbrev cC : F .f32 := Scalar.ofBits .f32 0x3DD53B95#32
abbrev cL : F .f32 := Scalar.ofBits .f32 0x3FB8AA3B#32
abbrev cN : F .f32 := Scalar.ofBits .f32 0x3F317218#32

/-- A chunk's rows of the output window are whole packed rows. -/
theorem packed_chunk (j : ℕ) (hj : j < 8) :
    (Rect.unit (s := S1x64x32x512) ![0, 8 * j, 0, 0] S1x8x32x512.size (inb_chunk 512 j hj)).PackedRows (EltTy.packing .bf16) := by
  match j, hj with
  | 0, _ => exact packedbf16_S1x64x32x512_S1x8x32x512_0_0_0_0
  | 1, _ => exact packedbf16_S1x64x32x512_S1x8x32x512_0_8_0_0
  | 2, _ => exact packedbf16_S1x64x32x512_S1x8x32x512_0_16_0_0
  | 3, _ => exact packedbf16_S1x64x32x512_S1x8x32x512_0_24_0_0
  | 4, _ => exact packedbf16_S1x64x32x512_S1x8x32x512_0_32_0_0
  | 5, _ => exact packedbf16_S1x64x32x512_S1x8x32x512_0_40_0_0
  | 6, _ => exact packedbf16_S1x64x32x512_S1x8x32x512_0_48_0_0
  | 7, _ => exact packedbf16_S1x64x32x512_S1x8x32x512_0_56_0_0
  | k + 8, h => omega

section

variable (arg2 : Memref sig .tc .smem S3 .i32) (harg2 : arg2.IsWhole) (arg3 : Memref sig .tc .vmem S1x64x32x512 .fp8e4m3) (harg3 : arg3.IsWhole) (arg4 : Memref sig .tc .vmem S1x64x32 .f32) (harg4 : arg4.IsWhole) (arg5 : Memref sig .tc .vmem S1x64x32x64 .bf16) (harg5 : arg5.IsWhole) (arg6 : Memref sig .tc .vmem S1x384x512 .fp8e4m3) (harg6 : arg6.IsWhole) (arg7 : Memref sig .tc .vmem S1x1x384 .f32) (harg7 : arg7.IsWhole) (arg8 : Memref sig .tc .vmem S1x384x64 .bf16) (harg8 : arg8.IsWhole) (arg9 : Memref sig .tc .vmem S1x64x32x512 .bf16) (harg9 : arg9.IsWhole) (arg10 : Memref sig .tc .vmem S1x64x32 .f32) (harg10 : arg10.IsWhole) (arg11 : Memref sig .tc .vmem S384x512 .bf16) (harg11 : arg11.IsWhole)

/-- Eight tokens: their queries loaded, their rows over the keys, their output block stored; the log-sum-exp
    columns go on in `acc`. -/
def chunk (nk : ℕ) (h0 : 0 < nk) (h1 : nk ≤ 384) (row : RowFn F nk) (x : Ctx F) (n : BitVec 32)
    (ck : FVec F (Mat nk 512) .fp8e4m3) (kr : FVec F (Mat nk 64) .bf16) (j : ℕ) (hj : j < 8)
    (acc : FVec F (Mat 32 64) .f32) : Prog (TpuEff nD τ sig (Elt F) Λ₀ .tc) (FVec F (Mat 32 64) .f32) := do
  let q : Vec F S1x8x32x512 .fp8e4m3 ← Prog.lift (.load arg3 (Rect.unit (s := S1x64x32x512) ![0, 8 * j, 0, 0] S1x8x32x512.size (inb_chunk 512 j hj)).toLoadRect (View.loadsAt_vmem h_S1x8x32x512))
  let qr : Vec F S1x8x32x64 .bf16 ← Prog.lift (.load arg5 (Rect.unit (s := S1x64x32x64) ![0, 8 * j, 0, 0] S1x8x32x64.size (inb_chunk 64 j hj)).toLoadRect (View.loadsAt_vmem h_S1x8x32x64))
  let cb : Vec F (Mat nk 512) .bf16 ← Prog.lift (.load arg11 (Rect.unit (s := S384x512) ![0, 0] (Mat nk 512).size (inb_cb nk h1)).toLoadRect (View.loadsAt_vmem (numel_cb nk h0)))
  let _o : Vec F S1x8x32x512 .bf16 ← Prog.lift (.load arg9 (Rect.unit (s := S1x64x32x512) ![0, 8 * j, 0, 0] S1x8x32x512.size (inb_chunk 512 j hj)).toLoadRect (View.loadsAt_vmem h_S1x8x32x512))
  Prog.lift (.store arg9 (Rect.unit (s := S1x64x32x512) ![0, 8 * j, 0, 0] S1x8x32x512.size (inb_chunk 512 j hj)) (outChunk n x.t0 j (rows8 fun t ht => (row x (latScores q ck) (ropeScores qr kr) j t hj ht).w) cb) Finset.univ (View.stores_vmem h_S1x8x32x512 (harg9.storeExact_slice rfl _ (packed_chunk j hj)) (fun _ => rfl)) (.inl rfl))
  pure (putChunk j (fun t ht => lseCol cL cN (row x (latScores q ck) (ropeScores qr kr) j t hj ht).m (row x (latScores q ck) (ropeScores qr kr) j t hj ht).l) acc)

/-- A window attended over the first `nk` keys. -/
def attend (nk : ℕ) (h0 : 0 < nk) (h1 : nk ≤ 384) (row : RowFn F nk) (n t0 : BitVec 32) :
    Prog (TpuEff nD τ sig (Elt F) Λ₀ .tc) PUnit := do
  let qs : Vec F S1x64x32 .f32 ← Prog.lift (.load arg4 (Rect.unit (s := S1x64x32) ![0, 0, 0] S1x64x32.size inb_S1x64x32_S1x64x32_0_0_0).toLoadRect (View.loadsAt_vmem h_S1x64x32))
  let cs : Vec F S1x1x384 .f32 ← Prog.lift (.load arg7 (Rect.unit (s := S1x1x384) ![0, 0, 0] S1x1x384.size inb_S1x1x384_S1x1x384_0_0_0).toLoadRect (View.loadsAt_vmem h_S1x1x384))
  let ck : Vec F ⟨3, ![1, nk, 512]⟩ .fp8e4m3 ← Prog.lift (.load arg6 (Rect.unit (s := S1x384x512) ![0, 0, 0] (⟨3, ![1, nk, 512]⟩ : Shape).size (inb_keys 512 nk h1)).toLoadRect (View.loadsAt_vmem (numel_keys 512 nk (by decide) h0)))
  let kr : Vec F ⟨3, ![1, nk, 64]⟩ .bf16 ← Prog.lift (.load arg8 (Rect.unit (s := S1x384x64) ![0, 0, 0] (⟨3, ![1, nk, 64]⟩ : Shape).size (inb_keys 64 nk h1)).toLoadRect (View.loadsAt_vmem (numel_keys 64 nk (by decide) h0)))
  let a0 ← chunk arg3 arg5 arg9 harg9 arg11 nk h0 h1 row ⟨cC, scaledQs cC qs, csRow cs, t0⟩ n (dropLead 512 nk ck) (dropLead 64 nk kr) 0 (by decide) (broadcast (Mat 32 64) (Scalar.ofBits .f32 0x00000000#32 : F .f32))
  let a1 ← chunk arg3 arg5 arg9 harg9 arg11 nk h0 h1 row ⟨cC, scaledQs cC qs, csRow cs, t0⟩ n (dropLead 512 nk ck) (dropLead 64 nk kr) 1 (by decide) a0
  let a2 ← chunk arg3 arg5 arg9 harg9 arg11 nk h0 h1 row ⟨cC, scaledQs cC qs, csRow cs, t0⟩ n (dropLead 512 nk ck) (dropLead 64 nk kr) 2 (by decide) a1
  let a3 ← chunk arg3 arg5 arg9 harg9 arg11 nk h0 h1 row ⟨cC, scaledQs cC qs, csRow cs, t0⟩ n (dropLead 512 nk ck) (dropLead 64 nk kr) 3 (by decide) a2
  let a4 ← chunk arg3 arg5 arg9 harg9 arg11 nk h0 h1 row ⟨cC, scaledQs cC qs, csRow cs, t0⟩ n (dropLead 512 nk ck) (dropLead 64 nk kr) 4 (by decide) a3
  let a5 ← chunk arg3 arg5 arg9 harg9 arg11 nk h0 h1 row ⟨cC, scaledQs cC qs, csRow cs, t0⟩ n (dropLead 512 nk ck) (dropLead 64 nk kr) 5 (by decide) a4
  let a6 ← chunk arg3 arg5 arg9 harg9 arg11 nk h0 h1 row ⟨cC, scaledQs cC qs, csRow cs, t0⟩ n (dropLead 512 nk ck) (dropLead 64 nk kr) 6 (by decide) a5
  let a7 ← chunk arg3 arg5 arg9 harg9 arg11 nk h0 h1 row ⟨cC, scaledQs cC qs, csRow cs, t0⟩ n (dropLead 512 nk ck) (dropLead 64 nk kr) 7 (by decide) a6
  let _e : Vec F S1x64x32 .f32 ← Prog.lift (.load arg10 (Rect.unit (s := S1x64x32) ![0, 0, 0] S1x64x32.size inb_S1x64x32_S1x64x32_0_0_0).toLoadRect (View.loadsAt_vmem h_S1x64x32))
  Prog.lift (.store arg10 (Rect.unit (s := S1x64x32) ![0, 0, 0] S1x64x32.size inb_S1x64x32_S1x64x32_0_0_0) (outLse n t0 a7) Finset.univ (View.stores_vmem_bits_univ h_S1x64x32 rfl) (.inl rfl))

/-- A window past the sequence's end: zeros. -/
def pad : Prog (TpuEff nD τ sig (Elt F) Λ₀ .tc) PUnit := do
  let _o : Vec F S1x64x32x512 .bf16 ← Prog.lift (.load arg9 (Rect.unit (s := S1x64x32x512) ![0, 0, 0, 0] S1x64x32x512.size inb_S1x64x32x512_S1x64x32x512_0_0_0_0).toLoadRect (View.loadsAt_vmem h_S1x64x32x512))
  Prog.lift (.store arg9 (Rect.unit (s := S1x64x32x512) ![0, 0, 0, 0] S1x64x32x512.size inb_S1x64x32x512_S1x64x32x512_0_0_0_0) (broadcast S1x64x32x512 (Scalar.ofBits .bf16 0x0000#16 : F .bf16)) Finset.univ (View.stores_vmem h_S1x64x32x512 (harg9.storeExact_slice rfl _ packedbf16_S1x64x32x512_S1x64x32x512_0_0_0_0) (fun _ => rfl)) (.inl rfl))
  let _e : Vec F S1x64x32 .f32 ← Prog.lift (.load arg10 (Rect.unit (s := S1x64x32) ![0, 0, 0] S1x64x32.size inb_S1x64x32_S1x64x32_0_0_0).toLoadRect (View.loadsAt_vmem h_S1x64x32))
  Prog.lift (.store arg10 (Rect.unit (s := S1x64x32) ![0, 0, 0] S1x64x32.size inb_S1x64x32_S1x64x32_0_0_0) (broadcast S1x64x32 (Scalar.ofBits .f32 0x00000000#32 : F .f32)) Finset.univ (View.stores_vmem_bits_univ h_S1x64x32 rfl) (.inl rfl))

/-- The codes of the batch widened into the scratch. -/
def fill : Prog (TpuEff nD τ sig (Elt F) Λ₀ .tc) PUnit := do
  let c : Vec F S1x384x512 .fp8e4m3 ← Prog.lift (.load arg6 (Rect.unit (s := S1x384x512) ![0, 0, 0] S1x384x512.size inb_S1x384x512_S1x384x512_0_0_0).toLoadRect (View.loadsAt_vmem h_S1x384x512))
  let _s : Vec F S384x512 .bf16 ← Prog.lift (.load arg11 (Rect.unit (s := S384x512) ![0, 0] S384x512.size inb_S384x512_S384x512_0_0).toLoadRect (View.loadsAt_vmem h_S384x512))
  Prog.lift (.store arg11 (Rect.unit (s := S384x512) ![0, 0] S384x512.size inb_S384x512_S384x512_0_0) (widen c) Finset.univ (View.stores_vmem h_S384x512 (harg11.storeExact_slice rfl _ packedbf16_S384x512_S384x512_0_0) (fun _ => rfl)) (.inl rfl))

/-- The window is its batch's first. -/
abbrev isFirst (i : grid0.Coords) : BitVec 1 :=
  Scalar.cmpi .ne (Scalar.extui (Scalar.cmpi .eq (BitVec.ofNat 32 (i 1).val) 0#32)) 0#32

/-- The word the kernel carries out of its first part: the length word, the window's first position, and the values
    from which it finds the window's block of keys. -/
abbrev HeadVals (F : FTy → Type) : Type :=
  Σ' (v1 : Elt F .i32) (v2 : BitVec 32) (v6 : BitVec 1) (c128 : BitVec 32) (v28 : BitVec 32) (v33 : BitVec 32), BitVec 32

/-- The body up to its first block of keys. -/
def head (i : grid0.Coords) : Prog (TpuEff nD τ sig (Elt F) Λ₀ .tc) (HeadVals F) := do
  let n : Elt F .i32 ← smemLoad arg2 (Rect.unit (s := S3) (k0_off1 i) S1.size (k0_off1_inb i)) numel1_S1 rfl
  if _h1 : isFirst i = 1#1 then do
    fill arg6 arg11 harg11
    pure ⟨⟩
  else do
    pure ⟨⟩
  if _h2 : k0_cond2 i n = 1#1 then do
    attend arg3 arg4 arg5 arg6 arg7 arg8 arg9 harg9 arg10 arg11 128 (by decide) (by decide) row1 n (startPos (i 1).val)
    pure ⟨⟩
  else do
    pure ⟨⟩
  pure ⟨n, startPos (i 1).val, Scalar.cmpi .slt (startPos (i 1).val) n, 128#32, Scalar.divsi (startPos (i 1).val) 128#32,
    Scalar.subi (Scalar.extui (Scalar.cmpi .sgt (startPos (i 1).val) 0#32)) (Scalar.extui (Scalar.cmpi .slt (startPos (i 1).val) 0#32)),
    Scalar.subi (Scalar.extui (Scalar.cmpi .sgt 128#32 0#32)) (Scalar.extui (Scalar.cmpi .slt 128#32 0#32))⟩

/-- The body. -/
def short (i : grid0.Coords) : Prog (TpuEff nD τ sig (Elt F) Λ₀ .tc) PUnit := do
  let ⟨n, t0, v6, c128, v28, v33, v38⟩ : HeadVals F ← head arg2 arg3 arg4 arg5 arg6 arg7 arg8 arg9 harg9 arg10 arg11 harg11 i
  if _h3 : k0_cond3 i n = 1#1 then do
    attend arg3 arg4 arg5 arg6 arg7 arg8 arg9 harg9 arg10 arg11 256 (by decide) (by decide) row2 n t0
    pure ⟨⟩
  else do
    pure ⟨⟩
  if _h4 : k0_cond4 i n = 1#1 then do
    attend arg3 arg4 arg5 arg6 arg7 arg8 arg9 harg9 arg10 arg11 384 (by decide) (by decide) row3 n t0
    pure ⟨⟩
  else do
    pure ⟨⟩
  if _h5 : k0_cond5 i n = 1#1 then do
    pad arg9 harg9 arg10
    pure ⟨⟩
  else do
    pure ⟨⟩
  pure ⟨⟩

set_option maxRecDepth 65536 in
/-- The first part as printed. -/
theorem head_eq (i : grid0.Coords) :
    k0_part267 (F := F) i arg2 harg2 arg3 harg3 arg4 harg4 arg5 harg5 arg6 harg6 arg7 harg7 arg8 harg8 arg9 harg9 arg10 harg10 arg11 harg11
      = head arg2 arg3 arg4 arg5 arg6 arg7 arg8 arg9 harg9 arg10 arg11 harg11 i := by
  chain_rfl

set_option maxRecDepth 65536 in
/-- The printed body is the short form. -/
theorem body_eq (i : grid0.Coords) :
    cc0_mla_prefill (F := F) i arg2 harg2 arg3 harg3 arg4 harg4 arg5 harg5 arg6 harg6 arg7 harg7 arg8 harg8 arg9 harg9 arg10 harg10 arg11 harg11
      = short arg2 arg3 arg4 arg5 arg6 arg7 arg8 arg9 harg9 arg10 arg11 harg11 i := by
  chain_rfl

end

end Cert.Kernel.Body
end
-- ==== Proof.Kernel.Run.lean ====
/- The kernel's body run: each of its pieces as a triple over what it holds — the six blocks it reads, the two it
   writes, the scratch and the table of lengths —, and from them what one grid point leaves (`body_runs`). -/
module

public import proofs.«01_k».proof.Proof.Kernel.Body
public import Idealize.ShloMosaic.Lib.Pipeline.FrameBody
public import Idealize.ShloMosaic.Lib.Ring
public import Idealize.ShloMosaic.Lib.Tactic
public import Idealize.ShloMosaic.Lib.VecWindow

@[expose] public section

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Mla Facts₀ Facts

variable {F : FTy → Type} [FloatOps F]

local notation "𝕄" => MT nD τ sig Unit (Elt F) ℕ (UR sig nD τ) ℕ

/-- The program `p`, started with `P`, returns `a` and leaves `P'`. -/
def Runs (c : Dev nD) {A : Type} (p : Prog (TpuEff nD τ sig (Elt F) Λ₀ .tc) A) (P : sProp 𝕄) (a : A) (P' : sProp 𝕄) : Prop :=
  ∀ (E : Set ℕ) (K : A → sProp 𝕄), iprop(P ∗ (P' -∗ K a)) ⊢ wp frame (wpE (defs₀ (F := F)) Variants.none c none) E p K

variable (c : Dev nD)

theorem Runs.ret {A : Type} (a : A) (P : sProp 𝕄) : Runs (F := F) c (pure a) P a P := fun E K => by
  iintro ⟨H, Hk⟩
  iapply (le_wp_ret frame (wpE (defs₀ (F := F)) Variants.none c none) E a K)
  iapply Hk; iexact H

theorem Runs.seq {A B : Type} {p : Prog (TpuEff nD τ sig (Elt F) Λ₀ .tc) A} {k : A → Prog (TpuEff nD τ sig (Elt F) Λ₀ .tc) B}
    {P P' P'' : sProp 𝕄} {a : A} {b : B} (hp : Runs c p P a P') (hk : Runs c (k a) P' b P'') : Runs c (p >>= k) P b P'' := fun E K => by
  rw [wp_bind]
  iintro ⟨H, Hk⟩
  iapply (hp E (fun a => wp frame (wpE (defs₀ (F := F)) Variants.none c none) E (k a) K))
  isplitl [H]; · iexact H
  iintro H
  iapply (hk E K)
  isplitl [H]; · iexact H
  iexact Hk

/-- A conditional that is taken, and one that is not. -/
theorem Runs.ifTrue {A : Type} {q : Prop} [Decidable q] (hq : q) {p : q → Prog (TpuEff nD τ sig (Elt F) Λ₀ .tc) A}
    {p' : ¬q → Prog (TpuEff nD τ sig (Elt F) Λ₀ .tc) A} {P P' : sProp 𝕄} {a : A} (h : Runs c (p hq) P a P') : Runs c (dite q p p') P a P' := by
  rw [dif_pos hq]; exact h

theorem Runs.ifFalse {A : Type} {q : Prop} [Decidable q] (hq : ¬q) {p : q → Prog (TpuEff nD τ sig (Elt F) Λ₀ .tc) A}
    {p' : ¬q → Prog (TpuEff nD τ sig (Elt F) Λ₀ .tc) A} {P P' : sProp 𝕄} {a : A} (h : Runs c (p' hq) P a P') : Runs c (dite q p p') P a P' := by
  rw [dif_neg hq]; exact h

/-- The table of lengths, and the word the body reads of it. -/
abbrev tbM : Memref sig .tc .smem S3 .i32 := Memref.whole main_arg6
abbrev TbBuf : Type := Buf (Elt F) (tbM.view.loc (c : Thread nD τ))
abbrev tbWord (i : grid0.Coords) (tb : TbBuf (F := F) c) : Elt F .i32 :=
  tbM.view.readAt (Elt F) (Rect.unit (s := S3) (k0_off1 i) S1.size (k0_off1_inb i)).toLoadRect tb (Shape.Idx.first (numel1_S1.symm ▸ Nat.one_pos))

variable (arg3 : Memref sig .tc .vmem S1x64x32x512 .fp8e4m3) (harg3 : arg3.IsWhole) (arg4 : Memref sig .tc .vmem S1x64x32 .f32) (harg4 : arg4.IsWhole) (arg5 : Memref sig .tc .vmem S1x64x32x64 .bf16) (harg5 : arg5.IsWhole) (arg6 : Memref sig .tc .vmem S1x384x512 .fp8e4m3) (harg6 : arg6.IsWhole) (arg7 : Memref sig .tc .vmem S1x1x384 .f32) (harg7 : arg7.IsWhole) (arg8 : Memref sig .tc .vmem S1x384x64 .bf16) (harg8 : arg8.IsWhole) (arg9 : Memref sig .tc .vmem S1x64x32x512 .bf16) (harg9 : arg9.IsWhole) (arg10 : Memref sig .tc .vmem S1x64x32 .f32) (harg10 : arg10.IsWhole) (arg11 : Memref sig .tc .vmem S384x512 .bf16) (harg11 : arg11.IsWhole)

/-- What the body holds: the blocks it reads, the blocks it writes, and the scratch. -/
def held (I : Ins F) (o : Vec F S1x64x32x512 .bf16) (e : Vec F S1x64x32 .f32) (s : Vec F S384x512 .bf16) : sProp 𝕄 :=
  iprop(owns (c : Thread nD τ) arg3 fullShare I.q ∗ owns (c : Thread nD τ) arg4 fullShare I.qs ∗ owns (c : Thread nD τ) arg5 fullShare I.qr
    ∗ owns (c : Thread nD τ) arg6 fullShare I.c ∗ owns (c : Thread nD τ) arg7 fullShare I.cs ∗ owns (c : Thread nD τ) arg8 fullShare I.kr
    ∗ owns (c : Thread nD τ) arg9 fullShare o ∗ owns (c : Thread nD τ) arg10 fullShare e ∗ owns (c : Thread nD τ) arg11 fullShare s)

/-- The same by the buffers' contents. -/
def pts (f0 : Buf (Elt F) (arg3.view.loc (c : Thread nD τ))) (f1 : Buf (Elt F) (arg4.view.loc (c : Thread nD τ))) (f2 : Buf (Elt F) (arg5.view.loc (c : Thread nD τ)))
    (f3 : Buf (Elt F) (arg6.view.loc (c : Thread nD τ))) (f4 : Buf (Elt F) (arg7.view.loc (c : Thread nD τ))) (f5 : Buf (Elt F) (arg8.view.loc (c : Thread nD τ)))
    (f6 : Buf (Elt F) (arg9.view.loc (c : Thread nD τ))) (f7 : Buf (Elt F) (arg10.view.loc (c : Thread nD τ))) (f8 : Buf (Elt F) (arg11.view.loc (c : Thread nD τ))) : sProp 𝕄 :=
  iprop((arg3.view.loc (c : Thread nD τ) ↦[arg3.view.set]{fullShare} f0) ∗ (arg4.view.loc (c : Thread nD τ) ↦[arg4.view.set]{fullShare} f1)
    ∗ (arg5.view.loc (c : Thread nD τ) ↦[arg5.view.set]{fullShare} f2) ∗ (arg6.view.loc (c : Thread nD τ) ↦[arg6.view.set]{fullShare} f3)
    ∗ (arg7.view.loc (c : Thread nD τ) ↦[arg7.view.set]{fullShare} f4) ∗ (arg8.view.loc (c : Thread nD τ) ↦[arg8.view.set]{fullShare} f5)
    ∗ (arg9.view.loc (c : Thread nD τ) ↦[arg9.view.set]{fullShare} f6) ∗ (arg10.view.loc (c : Thread nD τ) ↦[arg10.view.set]{fullShare} f7)
    ∗ (arg11.view.loc (c : Thread nD τ) ↦[arg11.view.set]{fullShare} f8))

include harg3 harg4 harg5 harg6 harg7 harg8 harg9 harg10 harg11 in
theorem held_open (I : Ins F) (o : Vec F S1x64x32x512 .bf16) (e : Vec F S1x64x32 .f32) (s : Vec F S384x512 .bf16) :
    held c arg3 arg4 arg5 arg6 arg7 arg8 arg9 arg10 arg11 I o e s
      ⊢ pts c arg3 arg4 arg5 arg6 arg7 arg8 arg9 arg10 arg11 (harg3.unread I.q) (harg4.unread I.qs) (harg5.unread I.qr) (harg6.unread I.c) (harg7.unread I.cs)
          (harg8.unread I.kr) (harg9.unread o) (harg10.unread e) (harg11.unread s) := by
  unfold held pts owns
  iintro ⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩⟩
  obtain rfl := harg3.eq_unread h0; obtain rfl := harg4.eq_unread h1; obtain rfl := harg5.eq_unread h2; obtain rfl := harg6.eq_unread h3
  obtain rfl := harg7.eq_unread h4; obtain rfl := harg8.eq_unread h5; obtain rfl := harg9.eq_unread h6; obtain rfl := harg10.eq_unread h7
  obtain rfl := harg11.eq_unread h8
  iframe

include harg3 harg4 harg5 harg6 harg7 harg8 in
theorem held_close (I : Ins F) {o : Vec F S1x64x32x512 .bf16} {e : Vec F S1x64x32 .f32} {s : Vec F S384x512 .bf16}
    {f6 : Buf (Elt F) (arg9.view.loc (c : Thread nD τ))} {f7 : Buf (Elt F) (arg10.view.loc (c : Thread nD τ))} {f8 : Buf (Elt F) (arg11.view.loc (c : Thread nD τ))}
    (h6 : arg9.view.read (Elt F) f6 = o) (h7 : arg10.view.read (Elt F) f7 = e) (h8 : arg11.view.read (Elt F) f8 = s) :
    pts c arg3 arg4 arg5 arg6 arg7 arg8 arg9 arg10 arg11 (harg3.unread I.q) (harg4.unread I.qs) (harg5.unread I.qr) (harg6.unread I.c) (harg7.unread I.cs)
        (harg8.unread I.kr) f6 f7 f8
      ⊢ held c arg3 arg4 arg5 arg6 arg7 arg8 arg9 arg10 arg11 I o e s := by
  unfold held pts owns
  iintro ⟨H0, H1, H2, H3, H4, H5, H6, H7, H8⟩
  isplitl [H0]; · iexists _; isplitr; · ipureintro; exact harg3.read_unread _
                  iexact H0
  isplitl [H1]; · iexists _; isplitr; · ipureintro; exact harg4.read_unread _
                  iexact H1
  isplitl [H2]; · iexists _; isplitr; · ipureintro; exact harg5.read_unread _
                  iexact H2
  isplitl [H3]; · iexists _; isplitr; · ipureintro; exact harg6.read_unread _
                  iexact H3
  isplitl [H4]; · iexists _; isplitr; · ipureintro; exact harg7.read_unread _
                  iexact H4
  isplitl [H5]; · iexists _; isplitr; · ipureintro; exact harg8.read_unread _
                  iexact H5
  isplitl [H6]; · iexists _; isplitr; · ipureintro; exact h6
                  iexact H6
  isplitl [H7]; · iexists _; isplitr; · ipureintro; exact h7
                  iexact H7
  iexists _; isplitr; · ipureintro; exact h8
  iexact H8

set_option maxHeartbeats 1000000 in
include harg3 harg4 harg5 harg6 harg7 harg8 harg10 harg11 in
/-- Eight tokens: their block goes into the output's. -/
theorem chunk_runs (nk : ℕ) (h0 : 0 < nk) (h1 : nk ≤ 384) (row : RowFn F nk) (x : Ctx F) (n : BitVec 32)
    (ck : FVec F (Mat nk 512) .fp8e4m3) (kr : FVec F (Mat nk 64) .bf16) (j : ℕ) (hj : j < 8) (acc : FVec F (Mat 32 64) .f32)
    (I : Ins F) (o : Vec F S1x64x32x512 .bf16) (e : Vec F S1x64x32 .f32) (s : Vec F S384x512 .bf16) :
    Runs c (chunk arg3 arg5 arg9 harg9 arg11 nk h0 h1 row x n ck kr j hj acc)
      (held c arg3 arg4 arg5 arg6 arg7 arg8 arg9 arg10 arg11 I o e s)
      (chunkLse cL cN row x ck kr I.q I.qr j hj acc)
      (held c arg3 arg4 arg5 arg6 arg7 arg8 arg9 arg10 arg11 I
        (VecWindow.put o ![0, 8 * j, 0, 0] ![1, 8, 32, 512] (chunkOut row x n ck kr (cbOf nk h1 s) I.q I.qr j hj)) e s) := fun E K => by
  unfold chunk chunkLse chunkRow
  iintro ⟨H, Hk⟩
  ihave H := (held_open c arg3 harg3 arg4 harg4 arg5 harg5 arg6 harg6 arg7 harg7 arg8 harg8 arg9 harg9 arg10 harg10 arg11 harg11 I o e s) $$ H
  unfold pts
  icases H with ⟨H0, H1, H2, H3, H4, H5, H6, H7, H8⟩
  have eq : arg3.view.readAt (Elt F) (Rect.unit (s := S1x64x32x512) ![0, 8 * j, 0, 0] S1x8x32x512.size (inb_chunk 512 j hj)).toLoadRect (harg3.unread I.q)
      = chunkQ I.q j hj := by
    rw [View.readAt_unit _ _ _ rfl (inb_chunk 512 j hj), harg3.read_unread]; rfl
  have eqr : arg5.view.readAt (Elt F) (Rect.unit (s := S1x64x32x64) ![0, 8 * j, 0, 0] S1x8x32x64.size (inb_chunk 64 j hj)).toLoadRect (harg5.unread I.qr)
      = chunkQ I.qr j hj := by
    rw [View.readAt_unit _ _ _ rfl (inb_chunk 64 j hj), harg5.read_unread]; rfl
  have ecb : arg11.view.readAt (Elt F) (Rect.unit (s := S384x512) ![0, 0] (Mat nk 512).size (inb_cb nk h1)).toLoadRect (harg11.unread s)
      = cbOf nk h1 s := by
    rw [View.readAt_unit _ _ _ rfl (inb_cb nk h1), harg11.read_unread]; rfl
  have h6 : arg9.view.read (Elt F) (arg9.view.writes (Elt F) (harg9.unread o) [⟨Rect.unit (s := S1x64x32x512) ![0, 8 * j, 0, 0] S1x8x32x512.size (inb_chunk 512 j hj),
        outChunk n x.t0 j (rows8 fun t ht => (row x (latScores (chunkQ I.q j hj) ck) (ropeScores (chunkQ I.qr j hj) kr) j t hj ht).w) (cbOf nk h1 s)⟩])
      = VecWindow.put o ![0, 8 * j, 0, 0] ![1, 8, 32, 512] (chunkOut row x n ck kr (cbOf nk h1 s) I.q I.qr j hj) := by
    rw [View.read_writes_cons_put _ _ _ _ _ rfl, View.writes_nil, harg9.read_unread]; rfl
  sl_exec
  sl_step
  iapply Hk
  iapply (held_close c arg3 harg3 arg4 harg4 arg5 harg5 arg6 harg6 arg7 harg7 arg8 harg8 arg9 arg10 arg11 I h6 (harg10.read_unread e) (harg11.read_unread s))
  unfold pts
  iframe

include harg3 harg4 harg5 harg6 harg7 harg8 harg9 harg10 harg11 in
/-- The log-sum-exp block stored. -/
theorem lse_runs (n t0 : BitVec 32) (acc : FVec F (Mat 32 64) .f32) (I : Ins F) (o : Vec F S1x64x32x512 .bf16) (e : Vec F S1x64x32 .f32) (s : Vec F S384x512 .bf16) :
    Runs c (do
        let _e : Vec F S1x64x32 .f32 ← Prog.lift (.load arg10 (Rect.unit (s := S1x64x32) ![0, 0, 0] S1x64x32.size inb_S1x64x32_S1x64x32_0_0_0).toLoadRect (View.loadsAt_vmem h_S1x64x32))
        Prog.lift (.store arg10 (Rect.unit (s := S1x64x32) ![0, 0, 0] S1x64x32.size inb_S1x64x32_S1x64x32_0_0_0) (outLse n t0 acc) Finset.univ (View.stores_vmem_bits_univ h_S1x64x32 rfl) (.inl rfl)))
      (held c arg3 arg4 arg5 arg6 arg7 arg8 arg9 arg10 arg11 I o e s) ⟨⟩ (held c arg3 arg4 arg5 arg6 arg7 arg8 arg9 arg10 arg11 I o (outLse n t0 acc) s) := fun E K => by
  iintro ⟨H, Hk⟩
  ihave H := (held_open c arg3 harg3 arg4 harg4 arg5 harg5 arg6 harg6 arg7 harg7 arg8 harg8 arg9 harg9 arg10 harg10 arg11 harg11 I o e s) $$ H
  unfold pts
  icases H with ⟨H0, H1, H2, H3, H4, H5, H6, H7, H8⟩
  sl_exec
  sl_step
  iapply Hk
  iapply (held_close c arg3 harg3 arg4 harg4 arg5 harg5 arg6 harg6 arg7 harg7 arg8 harg8 arg9 arg10 arg11 I (harg9.read_unread o) (View.read_writes_full _ _ _ _ _) (harg11.read_unread s))
  unfold pts
  iframe

include harg3 harg4 harg5 harg6 harg7 harg8 harg9 harg10 harg11 in
/-- A window past the sequence's end. -/
theorem pad_runs (I : Ins F) (o : Vec F S1x64x32x512 .bf16) (e : Vec F S1x64x32 .f32) (s : Vec F S384x512 .bf16) :
    Runs c (pad arg9 harg9 arg10) (held c arg3 arg4 arg5 arg6 arg7 arg8 arg9 arg10 arg11 I o e s) ⟨⟩
      (held c arg3 arg4 arg5 arg6 arg7 arg8 arg9 arg10 arg11 I (broadcast S1x64x32x512 (Scalar.ofBits .bf16 0x0000#16 : F .bf16)) (broadcast S1x64x32 (Scalar.ofBits .f32 0x00000000#32 : F .f32)) s) := fun E K => by
  unfold pad
  iintro ⟨H, Hk⟩
  ihave H := (held_open c arg3 harg3 arg4 harg4 arg5 harg5 arg6 harg6 arg7 harg7 arg8 harg8 arg9 harg9 arg10 harg10 arg11 harg11 I o e s) $$ H
  unfold pts
  icases H with ⟨H0, H1, H2, H3, H4, H5, H6, H7, H8⟩
  sl_exec
  sl_step
  iapply Hk
  iapply (held_close c arg3 harg3 arg4 harg4 arg5 harg5 arg6 harg6 arg7 harg7 arg8 harg8 arg9 arg10 arg11 I (View.read_writes_full _ _ _ _ _) (View.read_writes_full _ _ _ _ _) (harg11.read_unread s))
  unfold pts
  iframe

include harg3 harg4 harg5 harg6 harg7 harg8 harg9 harg10 harg11 in
/-- The codes of the batch widened into the scratch. -/
theorem fill_runs (I : Ins F) (o : Vec F S1x64x32x512 .bf16) (e : Vec F S1x64x32 .f32) (s : Vec F S384x512 .bf16) :
    Runs c (fill arg6 arg11 harg11) (held c arg3 arg4 arg5 arg6 arg7 arg8 arg9 arg10 arg11 I o e s) ⟨⟩ (held c arg3 arg4 arg5 arg6 arg7 arg8 arg9 arg10 arg11 I o e (widen I.c)) := fun E K => by
  unfold fill
  iintro ⟨H, Hk⟩
  ihave H := (held_open c arg3 harg3 arg4 harg4 arg5 harg5 arg6 harg6 arg7 harg7 arg8 harg8 arg9 harg9 arg10 harg10 arg11 harg11 I o e s) $$ H
  unfold pts
  icases H with ⟨H0, H1, H2, H3, H4, H5, H6, H7, H8⟩
  have ec : arg6.view.readAt (Elt F) (Rect.unit (s := S1x384x512) ![0, 0, 0] S1x384x512.size inb_S1x384x512_S1x384x512_0_0_0).toLoadRect (harg6.unread I.c)
      = I.c := by
    rw [View.readAt_full, harg6.read_unread]
  sl_exec
  sl_step
  iapply Hk
  iapply (held_close c arg3 harg3 arg4 harg4 arg5 harg5 arg6 harg6 arg7 harg7 arg8 harg8 arg9 arg10 arg11 I (harg9.read_unread o) (harg10.read_unread e) (View.read_writes_full _ _ _ _ _))
  unfold pts
  iframe

/-- A load of a block that the body holds reads the window of its values. -/
theorem load_runs {sh : Shape} {el : EltTy} (M : Memref sig .tc .vmem sh el) (x : Vec F sh el) {P : sProp 𝕄}
    (hP : P ⊢ iprop(owns (c : Thread nD τ) M fullShare x ∗ (owns (c : Thread nD τ) M fullShare x -∗ P)))
    {off size : Fin sh.rank → ℕ} (inb : ∀ a, off a + size a ≤ sh.size a) (hl : M.view.LoadsAt (Rect.unit off size inb).toLoadRect) :
    Runs c (Prog.lift (.load M (Rect.unit off size inb).toLoadRect hl)) P (VecWindow.window x off size inb) P := fun E K => by
  iintro ⟨H, Hk⟩
  ihave H := hP $$ H
  unfold owns
  icases H with ⟨⟨%f, %hf, Hf⟩, Hb⟩
  have ef : M.view.readAt (Elt F) (Rect.unit off size inb).toLoadRect f = VecWindow.window x off size inb := by
    rw [View.readAt_unit _ _ inb rfl inb, hf]
  sl_exec
  sl_step
  iapply Hk
  iapply Hb
  iexists f; isplitr; · ipureintro; exact hf
  iexact Hf

include harg3 harg4 harg5 harg6 harg7 harg8 harg9 harg10 harg11 in
/-- A window attended. -/
theorem attend_runs (nk : ℕ) (h0 : 0 < nk) (h1 : nk ≤ 384) (row : RowFn F nk) (n t0 : BitVec 32)
    (I : Ins F) (o : Vec F S1x64x32x512 .bf16) (e : Vec F S1x64x32 .f32) (s : Vec F S384x512 .bf16) :
    Runs c (attend arg3 arg4 arg5 arg6 arg7 arg8 arg9 harg9 arg10 arg11 nk h0 h1 row n t0)
      (held c arg3 arg4 arg5 arg6 arg7 arg8 arg9 arg10 arg11 I o e s) ⟨⟩ (held c arg3 arg4 arg5 arg6 arg7 arg8 arg9 arg10 arg11 I (attO cC nk h1 row n t0 I s) (attE cC cL cN nk h1 row n t0 I) s) := by
  have chunks : ∀ j hj acc o', Runs c (chunk arg3 arg5 arg9 harg9 arg11 nk h0 h1 row (ctxOf cC I t0) n (keysOf nk h1 I.c) (keysOf nk h1 I.kr) j hj acc)
      (held c arg3 arg4 arg5 arg6 arg7 arg8 arg9 arg10 arg11 I o' e s)
      (chunkLse cL cN row (ctxOf cC I t0) (keysOf nk h1 I.c) (keysOf nk h1 I.kr) I.q I.qr j hj acc)
      (held c arg3 arg4 arg5 arg6 arg7 arg8 arg9 arg10 arg11 I (VecWindow.put o' ![0, 8 * j, 0, 0] ![1, 8, 32, 512]
        (chunkOut row (ctxOf cC I t0) n (keysOf nk h1 I.c) (keysOf nk h1 I.kr) (cbOf nk h1 s) I.q I.qr j hj)) e s) := fun j hj acc o' =>
    chunk_runs c arg3 harg3 arg4 harg4 arg5 harg5 arg6 harg6 arg7 harg7 arg8 harg8 arg9 harg9 arg10 harg10 arg11 harg11 nk h0 h1 row _ n _ _ j hj acc I o' e s
  have hO := outs_all (fun j hj => chunkOut row (ctxOf cC I t0) n (keysOf nk h1 I.c) (keysOf nk h1 I.kr) (cbOf nk h1 s) I.q I.qr j hj) o
  unfold attend
  refine Runs.seq c (load_runs c arg4 I.qs ?_ _ _) ?_
  · unfold held; iintro ⟨H0, H1, H2, H3, H4, H5, H6, H7, H8⟩; isplitl [H1]; · iexact H1
    iintro H1; iframe
  rw [show VecWindow.window I.qs ![0, 0, 0] S1x64x32.size inb_S1x64x32_S1x64x32_0_0_0 = I.qs from window_full _ _]
  refine Runs.seq c (load_runs c arg7 I.cs ?_ _ _) ?_
  · unfold held; iintro ⟨H0, H1, H2, H3, H4, H5, H6, H7, H8⟩; isplitl [H4]; · iexact H4
    iintro H4; iframe
  rw [show VecWindow.window I.cs ![0, 0, 0] S1x1x384.size inb_S1x1x384_S1x1x384_0_0_0 = I.cs from window_full _ _]
  refine Runs.seq c (load_runs c arg6 I.c ?_ _ _) ?_
  · unfold held; iintro ⟨H0, H1, H2, H3, H4, H5, H6, H7, H8⟩; isplitl [H3]; · iexact H3
    iintro H3; iframe
  refine Runs.seq c (load_runs c arg8 I.kr ?_ _ _) ?_
  · unfold held; iintro ⟨H0, H1, H2, H3, H4, H5, H6, H7, H8⟩; isplitl [H5]; · iexact H5
    iintro H5; iframe
  refine Runs.seq c (chunks 0 (by decide) _ _) (Runs.seq c (chunks 1 (by decide) _ _) (Runs.seq c (chunks 2 (by decide) _ _)
    (Runs.seq c (chunks 3 (by decide) _ _) (Runs.seq c (chunks 4 (by decide) _ _) (Runs.seq c (chunks 5 (by decide) _ _)
    (Runs.seq c (chunks 6 (by decide) _ _) (Runs.seq c (chunks 7 (by decide) _ _) ?_)))))))
  unfold attO
  rw [← hO]
  exact lse_runs c arg3 harg3 arg4 harg4 arg5 harg5 arg6 harg6 arg7 harg7 arg8 harg8 arg9 harg9 arg10 harg10 arg11 harg11 n t0 _ I _ e s

/-! ## Which block of keys a window attends over -/

/-- The window is active at length `n`. -/
abbrev act (i : grid0.Coords) (n : BitVec 32) : BitVec 1 := Scalar.cmpi .slt (startPos (i 1).val) n

/-- A bit and a decided bit, as the kernel's conditions combine them. -/
theorem bit_and (b v : BitVec 1) :
    Scalar.cmpi .ne (Scalar.extui (Scalar.andi b v) : BitVec 32) 0#32 = 1#1 ↔ b = 1#1 ∧ v = 1#1 := by
  revert b v; decide

theorem bit_not (b : BitVec 1) : Scalar.cmpi .ne (Scalar.extui (Scalar.xori b 1#1) : BitVec 32) 0#32 = 1#1 ↔ ¬ b = 1#1 := by
  revert b; decide

theorem cond2_iff (i : grid0.Coords) (n : BitVec 32) : k0_cond2 i n = 1#1 ↔ act i n = 1#1 ∧ (i 1).val / 2 = 0 := by
  refine (bit_and _ _).trans (and_congr_right fun _ => ?_)
  have h : (i 1).val < 6 := (i 1).isLt
  revert h; generalize (i 1).val = k; intro h
  match k, h with
  | 0, _ | 1, _ | 2, _ | 3, _ | 4, _ | 5, _ => decide
  | k + 6, h => omega

theorem cond3_iff (i : grid0.Coords) (n : BitVec 32) : k0_cond3 i n = 1#1 ↔ act i n = 1#1 ∧ (i 1).val / 2 = 1 := by
  refine (bit_and _ _).trans (and_congr_right fun _ => ?_)
  have h : (i 1).val < 6 := (i 1).isLt
  revert h; generalize (i 1).val = k; intro h
  match k, h with
  | 0, _ | 1, _ | 2, _ | 3, _ | 4, _ | 5, _ => decide
  | k + 6, h => omega

theorem cond4_iff (i : grid0.Coords) (n : BitVec 32) : k0_cond4 i n = 1#1 ↔ act i n = 1#1 ∧ (i 1).val / 2 = 2 := by
  refine (bit_and _ _).trans (and_congr_right fun _ => ?_)
  have h : (i 1).val < 6 := (i 1).isLt
  revert h; generalize (i 1).val = k; intro h
  match k, h with
  | 0, _ | 1, _ | 2, _ | 3, _ | 4, _ | 5, _ => decide
  | k + 6, h => omega

theorem cond5_iff (i : grid0.Coords) (n : BitVec 32) : k0_cond5 i n = 1#1 ↔ ¬ act i n = 1#1 := bit_not _

theorem isFirst_iff (i : grid0.Coords) : isFirst i = 1#1 ↔ (i 1).val = 0 := by
  have h : (i 1).val < 6 := (i 1).isLt
  unfold isFirst
  revert h; generalize (i 1).val = k; intro h
  match k, h with
  | 0, _ | 1, _ | 2, _ | 3, _ | 4, _ | 5, _ => decide
  | k + 6, h => omega

/-! ## The body -/

/-- The scratch after the point: the batch's codes widened at its first window, as it was at the others. -/
abbrev stepS (i1 : ℕ) (I : Ins F) (s : Vec F S384x512 .bf16) : Vec F S384x512 .bf16 := if i1 = 0 then widen I.c else s

/-- What the body holds, with the table. -/
def heldT (tb : TbBuf (F := F) c) (I : Ins F) (o : Vec F S1x64x32x512 .bf16) (e : Vec F S1x64x32 .f32) (s : Vec F S384x512 .bf16) : sProp 𝕄 :=
  iprop(held c arg3 arg4 arg5 arg6 arg7 arg8 arg9 arg10 arg11 I o e s ∗ (tbM.view.loc (c : Thread nD τ) ↦{fullShare.right} tb))

/-- A piece that leaves the table alone. -/
theorem Runs.table {A : Type} {p : Prog (TpuEff nD τ sig (Elt F) Λ₀ .tc) A} {P P' T : sProp 𝕄} {a : A} (h : Runs c p P a P') :
    Runs c p iprop(P ∗ T) a iprop(P' ∗ T) := fun E K => by
  iintro ⟨⟨H, HT⟩, Hk⟩
  iapply (h E K)
  isplitl [H]; · iexact H
  iintro H
  iapply Hk
  iframe

/-- The length word. -/
theorem word_runs (i : grid0.Coords) (tb : TbBuf (F := F) c) (P : sProp 𝕄) :
    Runs c (smemLoad tbM (Rect.unit (s := S3) (k0_off1 i) S1.size (k0_off1_inb i)) numel1_S1 rfl) iprop(P ∗ (tbM.view.loc (c : Thread nD τ) ↦{fullShare.right} tb))
      (tbWord c i tb) iprop(P ∗ (tbM.view.loc (c : Thread nD τ) ↦{fullShare.right} tb)) := fun E K => by
  iintro ⟨⟨HP, HT⟩, Hk⟩
  sl_exec
  sl_step
  iapply Hk
  iframe

/-- A conditional piece that runs, and one that does not, with the rest of the program `k` behind it. -/
theorem Runs.stageT {B : Type} {q : Prop} [Decidable q] (hq : q) {p : Prog (TpuEff nD τ sig (Elt F) Λ₀ .tc) PUnit} {k : Prog (TpuEff nD τ sig (Elt F) Λ₀ .tc) B}
    {P P' P'' : sProp 𝕄} {b : B} (h : Runs c p P ⟨⟩ P') (hk : Runs c k P' b P'') :
    Runs c (if _h : q then (do p; k) else k) P b P'' := by
  rw [dif_pos hq]; exact Runs.seq c h hk

theorem Runs.stageF {B : Type} {q : Prop} [Decidable q] (hq : ¬q) {p : Prog (TpuEff nD τ sig (Elt F) Λ₀ .tc) PUnit} {k : Prog (TpuEff nD τ sig (Elt F) Λ₀ .tc) B}
    {P P'' : sProp 𝕄} {b : B} (hk : Runs c k P b P'') :
    Runs c (if _h : q then (do p; k) else k) P b P'' := by
  rw [dif_neg hq]; exact hk

include harg3 harg4 harg5 harg6 harg7 harg8 harg9 harg10 harg11 in
/-- The pieces, with the table beside them. -/
theorem attend_runsT (tb : TbBuf (F := F) c) (nk : ℕ) (h0 : 0 < nk) (h1 : nk ≤ 384) (row : RowFn F nk) (n t0 : BitVec 32)
    (I : Ins F) (o : Vec F S1x64x32x512 .bf16) (e : Vec F S1x64x32 .f32) (s : Vec F S384x512 .bf16) :
    Runs c (attend arg3 arg4 arg5 arg6 arg7 arg8 arg9 harg9 arg10 arg11 nk h0 h1 row n t0) (heldT c arg3 arg4 arg5 arg6 arg7 arg8 arg9 arg10 arg11 tb I o e s) ⟨⟩
      (heldT c arg3 arg4 arg5 arg6 arg7 arg8 arg9 arg10 arg11 tb I (attO cC nk h1 row n t0 I s) (attE cC cL cN nk h1 row n t0 I) s) :=
  (attend_runs c arg3 harg3 arg4 harg4 arg5 harg5 arg6 harg6 arg7 harg7 arg8 harg8 arg9 harg9 arg10 harg10 arg11 harg11 nk h0 h1 row n t0 I o e s).table c

include harg3 harg4 harg5 harg6 harg7 harg8 harg9 harg10 harg11 in
theorem pad_runsT (tb : TbBuf (F := F) c) (I : Ins F) (o : Vec F S1x64x32x512 .bf16) (e : Vec F S1x64x32 .f32) (s : Vec F S384x512 .bf16) :
    Runs c (pad arg9 harg9 arg10) (heldT c arg3 arg4 arg5 arg6 arg7 arg8 arg9 arg10 arg11 tb I o e s) ⟨⟩
      (heldT c arg3 arg4 arg5 arg6 arg7 arg8 arg9 arg10 arg11 tb I (broadcast S1x64x32x512 (Scalar.ofBits .bf16 0x0000#16 : F .bf16)) (broadcast S1x64x32 (Scalar.ofBits .f32 0x00000000#32 : F .f32)) s) :=
  (pad_runs c arg3 harg3 arg4 harg4 arg5 harg5 arg6 harg6 arg7 harg7 arg8 harg8 arg9 harg9 arg10 harg10 arg11 harg11 I o e s).table c

include harg3 harg4 harg5 harg6 harg7 harg8 harg9 harg10 harg11 in
theorem fill_runsT (tb : TbBuf (F := F) c) (i : grid0.Coords) (I : Ins F) (o : Vec F S1x64x32x512 .bf16) (e : Vec F S1x64x32 .f32) (s : Vec F S384x512 .bf16)
    {B : Type} {k : Prog (TpuEff nD τ sig (Elt F) Λ₀ .tc) B} {b : B} {P : sProp 𝕄} (hk : Runs c k (heldT c arg3 arg4 arg5 arg6 arg7 arg8 arg9 arg10 arg11 tb I o e (stepS (i 1).val I s)) b P) :
    Runs c (if _h1 : isFirst i = 1#1 then (do fill arg6 arg11 harg11; k) else k) (heldT c arg3 arg4 arg5 arg6 arg7 arg8 arg9 arg10 arg11 tb I o e s) b P := by
  by_cases h : (i 1).val = 0
  · rw [show stepS (i 1).val I s = widen I.c from if_pos h] at hk
    exact Runs.stageT c ((isFirst_iff i).mpr h) ((fill_runs c arg3 harg3 arg4 harg4 arg5 harg5 arg6 harg6 arg7 harg7 arg8 harg8 arg9 harg9 arg10 harg10 arg11 harg11 I o e s).table c) hk
  · rw [show stepS (i 1).val I s = s from if_neg h] at hk
    exact Runs.stageF c (fun h' => h ((isFirst_iff i).mp h')) hk

/-- The blocks after the body's first part: written already if the window is an active one of the first two. -/
abbrev headO (i : grid0.Coords) (n : BitVec 32) (I : Ins F) (o : Vec F S1x64x32x512 .bf16) (s : Vec F S384x512 .bf16) : Vec F S1x64x32x512 .bf16 :=
  if k0_cond2 i n = 1#1 then attO cC 128 (by decide) row1 n (startPos (i 1).val) I s else o
abbrev headE (i : grid0.Coords) (n : BitVec 32) (I : Ins F) (e : Vec F S1x64x32 .f32) : Vec F S1x64x32 .f32 :=
  if k0_cond2 i n = 1#1 then attE cC cL cN 128 (by decide) row1 n (startPos (i 1).val) I else e

/-- What the first part hands on. -/
abbrev headVals (i : grid0.Coords) (n : Elt F .i32) : HeadVals F :=
  ⟨n, startPos (i 1).val, Scalar.cmpi .slt (startPos (i 1).val) n, 128#32, Scalar.divsi (startPos (i 1).val) 128#32,
    Scalar.subi (Scalar.extui (Scalar.cmpi .sgt (startPos (i 1).val) 0#32)) (Scalar.extui (Scalar.cmpi .slt (startPos (i 1).val) 0#32)),
    Scalar.subi (Scalar.extui (Scalar.cmpi .sgt 128#32 0#32)) (Scalar.extui (Scalar.cmpi .slt 128#32 0#32))⟩

include harg3 harg4 harg5 harg6 harg7 harg8 harg9 harg10 harg11 in
theorem head_runs (i : grid0.Coords) (tb : TbBuf (F := F) c) (I : Ins F) (o : Vec F S1x64x32x512 .bf16) (e : Vec F S1x64x32 .f32) (s : Vec F S384x512 .bf16)
    (n : Elt F .i32) (hn : tbWord c i tb = n) :
    Runs c (head (F := F) tbM arg3 arg4 arg5 arg6 arg7 arg8 arg9 harg9 arg10 arg11 harg11 i)
      (heldT c arg3 arg4 arg5 arg6 arg7 arg8 arg9 arg10 arg11 tb I o e s) (headVals (F := F) i n)
      (heldT c arg3 arg4 arg5 arg6 arg7 arg8 arg9 arg10 arg11 tb I (headO i n I o (stepS (i 1).val I s)) (headE i n I e) (stepS (i 1).val I s)) := by
  unfold head
  subst hn
  refine Runs.seq c (word_runs c i tb _) (fill_runsT c arg3 harg3 arg4 harg4 arg5 harg5 arg6 harg6 arg7 harg7 arg8 harg8 arg9 harg9 arg10 harg10 arg11 harg11 tb i I o e s ?_)
  by_cases h2 : k0_cond2 i (tbWord c i tb) = 1#1
  · rw [show headO i (tbWord c i tb) I o (stepS (i 1).val I s) = _ from if_pos h2, show headE i (tbWord c i tb) I e = _ from if_pos h2]
    exact Runs.stageT c h2 (attend_runsT c arg3 harg3 arg4 harg4 arg5 harg5 arg6 harg6 arg7 harg7 arg8 harg8 arg9 harg9 arg10 harg10 arg11 harg11 tb 128 _ _ row1 _ _ I o e _) (Runs.ret c _ _)
  · rw [show headO i (tbWord c i tb) I o (stepS (i 1).val I s) = _ from if_neg h2, show headE i (tbWord c i tb) I e = _ from if_neg h2]
    exact Runs.stageF c h2 (Runs.ret c _ _)

include harg3 harg4 harg5 harg6 harg7 harg8 harg9 harg10 harg11 in
/-- THE BODY at a grid point: from any contents of the output blocks it leaves `stepO` and `stepE` of what it read, and
    the scratch `stepS`. -/
theorem body_runs (i : grid0.Coords) (tb : TbBuf (F := F) c) (I : Ins F) (o : Vec F S1x64x32x512 .bf16) (e : Vec F S1x64x32 .f32) (s : Vec F S384x512 .bf16) :
    Runs c (cc0_mla_prefill (F := F) i tbM (Memref.isWhole_whole _) arg3 harg3 arg4 harg4 arg5 harg5 arg6 harg6 arg7 harg7 arg8 harg8 arg9 harg9 arg10 harg10 arg11 harg11)
      (heldT c arg3 arg4 arg5 arg6 arg7 arg8 arg9 arg10 arg11 tb I o e s) ⟨⟩
      (heldT c arg3 arg4 arg5 arg6 arg7 arg8 arg9 arg10 arg11 tb I (stepO cC (i 1).val (tbWord c i tb) I (stepS (i 1).val I s)) (stepE cC cL cN (i 1).val (tbWord c i tb) I) (stepS (i 1).val I s)) := by
  rw [body_eq]
  unfold short
  generalize hn : tbWord c i tb = n
  refine Runs.seq c (head_runs c arg3 harg3 arg4 harg4 arg5 harg5 arg6 harg6 arg7 harg7 arg8 harg8 arg9 harg9 arg10 harg10 arg11 harg11 i tb I o e s n hn) ?_
  dsimp only
  have h6 : (i 1).val < 6 := (i 1).isLt
  by_cases ha : act i n = 1#1
  · have n5 : ¬ k0_cond5 i n = 1#1 := fun h => (cond5_iff i n).mp h ha
    by_cases h0 : (i 1).val / 2 = 0
    · have h2 := (cond2_iff i n).mpr ⟨ha, h0⟩
      rw [show stepO cC (i 1).val n I (stepS (i 1).val I s) = attO cC 128 (by decide) row1 n (startPos (i 1).val) I (stepS (i 1).val I s) from (if_pos ha).trans (if_pos h0),
        show stepE cC cL cN (i 1).val n I = attE cC cL cN 128 (by decide) row1 n (startPos (i 1).val) I from (if_pos ha).trans (if_pos h0),
        show headO i n I o (stepS (i 1).val I s) = _ from if_pos h2, show headE i n I e = _ from if_pos h2]
      exact Runs.stageF c (fun h => by have := ((cond3_iff i n).mp h).2; omega)
        (Runs.stageF c (fun h => by have := ((cond4_iff i n).mp h).2; omega)
          (Runs.stageF c n5 (Runs.ret c _ _)))
    · by_cases h1 : (i 1).val / 2 = 1
      · rw [show stepO cC (i 1).val n I (stepS (i 1).val I s) = attO cC 256 (by decide) row2 n (startPos (i 1).val) I (stepS (i 1).val I s) from
            ((if_pos ha).trans (if_neg h0)).trans (if_pos h1),
          show stepE cC cL cN (i 1).val n I = attE cC cL cN 256 (by decide) row2 n (startPos (i 1).val) I from ((if_pos ha).trans (if_neg h0)).trans (if_pos h1)]
        exact Runs.stageT c ((cond3_iff i n).mpr ⟨ha, h1⟩) (attend_runsT c arg3 harg3 arg4 harg4 arg5 harg5 arg6 harg6 arg7 harg7 arg8 harg8 arg9 harg9 arg10 harg10 arg11 harg11 tb 256 _ _ row2 _ _ I _ _ _)
          (Runs.stageF c (fun h => by have := ((cond4_iff i n).mp h).2; omega)
            (Runs.stageF c n5 (Runs.ret c _ _)))
      · have h2 : (i 1).val / 2 = 2 := by omega
        rw [show stepO cC (i 1).val n I (stepS (i 1).val I s) = attO cC 384 (by decide) row3 n (startPos (i 1).val) I (stepS (i 1).val I s) from
            ((if_pos ha).trans (if_neg h0)).trans (if_neg h1),
          show stepE cC cL cN (i 1).val n I = attE cC cL cN 384 (by decide) row3 n (startPos (i 1).val) I from ((if_pos ha).trans (if_neg h0)).trans (if_neg h1)]
        exact Runs.stageF c (fun h => h1 ((cond3_iff i n).mp h).2)
          (Runs.stageT c ((cond4_iff i n).mpr ⟨ha, h2⟩) (attend_runsT c arg3 harg3 arg4 harg4 arg5 harg5 arg6 harg6 arg7 harg7 arg8 harg8 arg9 harg9 arg10 harg10 arg11 harg11 tb 384 _ _ row3 _ _ I _ _ _)
            (Runs.stageF c n5 (Runs.ret c _ _)))
  · rw [show stepO cC (i 1).val n I (stepS (i 1).val I s) = _ from if_neg ha, show stepE cC cL cN (i 1).val n I = _ from if_neg ha]
    exact Runs.stageF c (fun h => ha ((cond3_iff i n).mp h).1)
      (Runs.stageF c (fun h => ha ((cond4_iff i n).mp h).1)
        (Runs.stageT c ((cond5_iff i n).mpr ha) (pad_runsT c arg3 harg3 arg4 harg4 arg5 harg5 arg6 harg6 arg7 harg7 arg8 harg8 arg9 harg9 arg10 harg10 arg11 harg11 tb I _ _ _) (Runs.ret c _ _)))

end Cert.Kernel.Body
end
-- ==== Proof.Kernel.Frame.lean ====
/- The pipeline region of the kernel `Kernel`: what its windows read, what each grid point leaves, and the frame.
   The body is the one of `Run`, whose triple serves every point. -/
module

public import proofs.«01_k».proof.Proof.Gen.Kernel.Launch
public import proofs.«01_k».proof.Proof.Kernel.Run
public import Idealize.ShloMosaic.Lib.Pipeline.Kit
public import Idealize.ShloMosaic.Lib.Claim

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Mla

variable {F : FTy → Type} [FloatOps F]

local notation "𝕄" => MT nD τ sig Unit (Elt F) ℕ (UR sig nD τ) ℕ

/-! ## The schedule of the windows whose index maps read no table -/

/-- Window 3 is fetched at the points ≡ 0 (mod 6). -/
theorem fetch0_3 (a : (pcfg0 (F := F)).Adm) : ∀ t : Fin (cfg0 a).N, ((cfg0 a).win 3).fetch t = true ↔ t.val % 6 = 0 :=
  (fun t => Pipeline.Window.fetchOf_reads cc0_transform_3 reads0_3 hreads0_3 0 (by decide) (by decide) (Pipeline.Window.sep_of_coord cc0_transform_3 0 0 (fun _ => rfl) (by decide)) (P := 6) (by decide) t : ∀ t : Fin grid0.N, Pipeline.Window.fetchOf grid0 false cc0_transform_3 t = true ↔ t.val % 6 = 0)
/-- Window 4 is fetched at the points ≡ 0 (mod 6). -/
theorem fetch0_4 (a : (pcfg0 (F := F)).Adm) : ∀ t : Fin (cfg0 a).N, ((cfg0 a).win 4).fetch t = true ↔ t.val % 6 = 0 :=
  (fun t => Pipeline.Window.fetchOf_reads cc0_transform_4 reads0_4 hreads0_4 0 (by decide) (by decide) (Pipeline.Window.sep_of_coord cc0_transform_4 0 0 (fun _ => rfl) (by decide)) (P := 6) (by decide) t : ∀ t : Fin grid0.N, Pipeline.Window.fetchOf grid0 false cc0_transform_4 t = true ↔ t.val % 6 = 0)
/-- Window 5 is fetched at the points ≡ 0 (mod 6). -/
theorem fetch0_5 (a : (pcfg0 (F := F)).Adm) : ∀ t : Fin (cfg0 a).N, ((cfg0 a).win 5).fetch t = true ↔ t.val % 6 = 0 :=
  (fun t => Pipeline.Window.fetchOf_reads cc0_transform_5 reads0_5 hreads0_5 0 (by decide) (by decide) (Pipeline.Window.sep_of_coord cc0_transform_5 0 0 (fun _ => rfl) (by decide)) (P := 6) (by decide) t : ∀ t : Fin grid0.N, Pipeline.Window.fetchOf grid0 false cc0_transform_5 t = true ↔ t.val % 6 = 0)
/-- Window 6 is written back at every point. -/
theorem flush0_6 (a : (pcfg0 (F := F)).Adm) : ∀ t : Fin (cfg0 a).N, ((cfg0 a).win 6).flush t = true :=
  (fun t => (Pipeline.Window.flushOf_reads cc0_transform_6 reads0_6 hreads0_6 1 (by decide) (by decide) (Pipeline.Window.sep_of_coord cc0_transform_6 1 1 (fun _ => rfl) (by decide)) (P := 1) (m := 0) (by decide) rfl t).mpr (Nat.mod_one _) : ∀ t : Fin grid0.N, Pipeline.Window.flushOf grid0 true cc0_transform_6 t = true)
/-- Window 7 is written back at every point. -/
theorem flush0_7 (a : (pcfg0 (F := F)).Adm) : ∀ t : Fin (cfg0 a).N, ((cfg0 a).win 7).flush t = true :=
  (fun t => (Pipeline.Window.flushOf_reads cc0_transform_7 reads0_7 hreads0_7 1 (by decide) (by decide) (Pipeline.Window.sep_of_coord cc0_transform_7 1 1 (fun _ => rfl) (by decide)) (P := 1) (m := 0) (by decide) rfl t).mpr (Nat.mod_one _) : ∀ t : Fin grid0.N, Pipeline.Window.flushOf grid0 true cc0_transform_7 t = true)

/-- The kernel body at point `t`, on the current staging buffers. -/
abbrev bodyAt0 (a : (pcfg0 (F := F)).Adm) (t : Fin (cfg0 a).N) : Prog (TpuEff nD τ sig (Elt F) Λ₀ .tc) PUnit :=
  cc0_mla_prefill (grid0.coords t) (Memref.whole main_arg6) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (Memref.whole cc0_scratch0) (Memref.isWhole_whole _)

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer that no host operation before the region writes is found as launched. -/
theorem V_of (c : Dev nD) (b : Ref sig .tc) (h : Proc.devRef (τ := τ) .tc b ≠ Proc.devRef .tc main_v0) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.reshape_writes, Finset.mem_singleton]
    exact h))
theorem V_main_arg0 (c : Dev nD) : V m c main_arg0 = m ((c : Thread nD τ).loc main_arg0) :=
  V_of m c main_arg0 (StableHlo.devRef_ne_of_ne (by decide))
theorem V_main_arg1 (c : Dev nD) : V m c main_arg1 = m ((c : Thread nD τ).loc main_arg1) :=
  V_of m c main_arg1 (StableHlo.devRef_ne_of_ne (by decide))
theorem V_main_arg2 (c : Dev nD) : V m c main_arg2 = m ((c : Thread nD τ).loc main_arg2) :=
  V_of m c main_arg2 (StableHlo.devRef_ne_of_ne (by decide))
theorem V_main_arg3 (c : Dev nD) : V m c main_arg3 = m ((c : Thread nD τ).loc main_arg3) :=
  V_of m c main_arg3 (StableHlo.devRef_ne_of_ne (by decide))
theorem V_main_arg4 (c : Dev nD) : V m c main_arg4 = m ((c : Thread nD τ).loc main_arg4) :=
  V_of m c main_arg4 (StableHlo.devRef_ne_of_ne (by decide))
theorem V_main_arg5 (c : Dev nD) : V m c main_arg5 = m ((c : Thread nD τ).loc main_arg5) :=
  V_of m c main_arg5 (StableHlo.devRef_ne_of_ne (by decide))
theorem V_main_arg6 (c : Dev nD) : V m c main_arg6 = m ((c : Thread nD τ).loc main_arg6) :=
  V_of m c main_arg6 (StableHlo.devRef_ne_of_ne (by decide))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S3 .i32 := Memref.whole main_arg6
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`). -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`). -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`). -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`). -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`). -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`). -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The arguments end as they began, read off a frame run: a staged input by the library, an array that no window stages by
    the second clause of the run's postcondition. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).2 main_arg4 (by decide : main_arg4 ∈ Pipeline.restRefs sig spec0)).trans (V_main_arg4 m c),
      ((h c).1 5).trans (((dats 0 c).arrAt_in 5 rfl _).trans ((hA c 5).trans (V_main_arg5 m c))),
      ((h c).2 main_arg6 (by decide : main_arg6 ∈ Pipeline.restRefs sig spec0)).trans (V_main_arg6 m c)⟩) h

/-! ## No window is ever idle -/

theorem liveAt0_0 (hO : Ok m) : ∀ t : Fin (cfgM m hO).N, (cfgM m hO).idle 0 (grid0.coords t) = false :=
  (fun _ => rfl : ∀ t : Fin grid0.N, idle0 (tbl m) 0 (grid0.coords t) = false)
theorem liveAt0_1 (hO : Ok m) : ∀ t : Fin (cfgM m hO).N, (cfgM m hO).idle 1 (grid0.coords t) = false :=
  (fun _ => rfl : ∀ t : Fin grid0.N, idle0 (tbl m) 1 (grid0.coords t) = false)
theorem liveAt0_2 (hO : Ok m) : ∀ t : Fin (cfgM m hO).N, (cfgM m hO).idle 2 (grid0.coords t) = false :=
  (fun _ => rfl : ∀ t : Fin grid0.N, idle0 (tbl m) 2 (grid0.coords t) = false)
theorem liveAt0_3 (hO : Ok m) : ∀ t : Fin (cfgM m hO).N, (cfgM m hO).idle 3 (grid0.coords t) = false :=
  (fun _ => rfl : ∀ t : Fin grid0.N, idle0 (tbl m) 3 (grid0.coords t) = false)
theorem liveAt0_4 (hO : Ok m) : ∀ t : Fin (cfgM m hO).N, (cfgM m hO).idle 4 (grid0.coords t) = false :=
  (fun _ => rfl : ∀ t : Fin grid0.N, idle0 (tbl m) 4 (grid0.coords t) = false)
theorem liveAt0_5 (hO : Ok m) : ∀ t : Fin (cfgM m hO).N, (cfgM m hO).idle 5 (grid0.coords t) = false :=
  (fun _ => rfl : ∀ t : Fin grid0.N, idle0 (tbl m) 5 (grid0.coords t) = false)

/-- An output window is written at every point: one of the four conditions holds. -/
theorem never_idle (i : grid0.Coords) (n : BitVec 32) :
    (!(k0_cond2 i n == 1#1) && !(k0_cond3 i n == 1#1) && !(k0_cond4 i n == 1#1) && !(k0_cond5 i n == 1#1)) = false := by
  have h6 : (i 1).val < 6 := (i 1).isLt
  have yes : ∀ {b : BitVec 1}, b = 1#1 → (!(b == 1#1)) = false := by intro b h; subst h; rfl
  by_cases ha : act i n = 1#1
  · rcases (by omega : (i 1).val / 2 = 0 ∨ (i 1).val / 2 = 1 ∨ (i 1).val / 2 = 2) with h | h | h
    · rw [yes ((cond2_iff i n).mpr ⟨ha, h⟩)]; simp
    · rw [yes ((cond3_iff i n).mpr ⟨ha, h⟩)]; simp
    · rw [yes ((cond4_iff i n).mpr ⟨ha, h⟩)]; simp
  · rw [yes ((cond5_iff i n).mpr ha)]; simp

theorem liveAt0_6 (hO : Ok m) : ∀ t : Fin (cfgM m hO).N, (cfgM m hO).idle 6 (grid0.coords t) = false :=
  fun t => never_idle _ _
theorem liveAt0_7 (hO : Ok m) : ∀ t : Fin (cfgM m hO).N, (cfgM m hO).idle 7 (grid0.coords t) = false :=
  fun t => never_idle _ _

/-- Each window's current staging memref at point `t`, spelled as the pipeline passes it (`bodyAt0`), and its wholeness. -/
abbrev ms0_0 (hO : Ok m) (t : Fin (cfgM m hO).N) : Memref sig .tc .vmem S1x64x32x512 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x64x32 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x64x32x64 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x384x512 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x384 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x384x64 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x64x32x512 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x64x32 .f32 := spec0_7.stage ((cfgM m hO).slots t 7)
abbrev hs0_7 (hO : Ok m) (t : Fin (cfgM m hO).N) : (ms0_7 m hO t).IsWhole := hstage0_7 (((cfgM m hO).slots t 7).cast nbuf0_7)
/-- The scratch operands: whole scoped buffers of the kernel's own, passed beside the windows. -/
abbrev scM0_0 : Memref sig .tc .vmem S384x512 .bf16 := Memref.whole cc0_scratch0
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## What the body reads and leaves -/

/-- The six blocks that the body reads at point `t`. -/
def insAt (hO : Ok m) (c : Dev nD) (t : Fin (cfgM m hO).N) : Ins F :=
  ⟨iblk m hO c 0 t, iblk m hO c 1 t, iblk m hO c 2 t, iblk m hO c 3 t, iblk m hO c 4 t, iblk m hO c 5 t⟩

/-- The scratch after point `n`: the codes of the sequence, widened, as the first point of its sequence wrote them. -/
def scr (hO : Ok m) (c : Dev nD) (n : ℕ) (hn : n < (cfgM m hO).N) : Vec F S384x512 .bf16 :=
  widen (insAt m hO c ⟨n - n % 6, lt_of_le_of_lt (Nat.sub_le _ _) hn⟩).c

theorem coord1 (hO : Ok m) (t : Fin (cfgM m hO).N) : (grid0.coords t 1).val = t.val % 6 :=
  (Pipeline.Grid.coords_val (G := grid0) t 1 (by decide) rfl : (grid0.coords t 1).val = t.val / 1 % 6).trans (by rw [Nat.div_one])

/-- The scratch at a point's end, from what it was at the point's start. -/
theorem scr_step (hO : Ok m) (c : Dev nD) (t : Fin (cfgM m hO).N) (hz : t.val ≠ 0) :
    stepS (grid0.coords t 1).val (insAt m hO c t) (scr m hO c (t.val - 1) (by have := t.isLt; omega)) = scr m hO c t.val t.isLt := by
  rw [coord1 m hO t]
  unfold stepS
  by_cases h : t.val % 6 = 0
  · rw [if_pos h]
    unfold scr
    congr 3
    exact Fin.ext (by show t.val = t.val - t.val % 6; omega)
  · rw [if_neg h]
    unfold scr
    congr 3
    exact Fin.ext (by show t.val - 1 - (t.val - 1) % 6 = t.val - t.val % 6; omega)

theorem scr_first (hO : Ok m) (c : Dev nD) (t : Fin (cfgM m hO).N) (hz : t.val = 0) (s : Vec F S384x512 .bf16) :
    stepS (grid0.coords t 1).val (insAt m hO c t) s = scr m hO c t.val t.isLt := by
  rw [coord1 m hO t]
  unfold stepS
  rw [if_pos (by omega)]
  unfold scr
  congr 3
  exact Fin.ext (by show t.val = t.val - t.val % 6; omega)

/-- What point `t` leaves in the two output blocks. -/
def outO (hO : Ok m) (c : Dev nD) (t : Fin (cfgM m hO).N) : Vec F S1x64x32x512 .bf16 :=
  stepO cC (grid0.coords t 1).val (tbWord c (grid0.coords t) (tbl m 0)) (insAt m hO c t) (scr m hO c t.val t.isLt)
def outE (hO : Ok m) (c : Dev nD) (t : Fin (cfgM m hO).N) : Vec F S1x64x32 .f32 :=
  stepE cC cL cN (grid0.coords t 1).val (tbWord c (grid0.coords t) (tbl m 0)) (insAt m hO c t)

/-! ## The invariant and the proof data -/

/-- The invariant before position `n`: before the first point the scratch holds anything, afterwards what the point before left. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare (scr m hO c n hn)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl
theorem PhiS_succ (hO : Ok m) (c : Dev nD) (n : ℕ) (hn : n < (cfgM m hO).N) :
    PhiS m hO c (n + 1) hn = iprop(iprop(iprop(owns (c : Thread nD τ) scM0_0 fullShare (scr m hO c n hn)) ∗ (∃ r, prngReg c r)) ∗ Pipeline.ΦT pre0 (tbl m) c) := rfl
theorem PhiS_pos (hO : Ok m) (c : Dev nD) (n : ℕ) (h : n ≤ (cfgM m hO).N) (hz : n ≠ 0) :
    PhiS m hO c n h = iprop(iprop(iprop(owns (c : Thread nD τ) scM0_0 fullShare (scr m hO c (n - 1) (by omega))) ∗ (∃ r, prngReg c r)) ∗ Pipeline.ΦT pre0 (tbl m) c) := by
  cases n with
  | zero => exact absurd rfl hz
  | succ n => rfl

/-- The proof data of the pipeline on core `c`: the arrays as the region finds them; after the body each input's buffer at
    its block and the outputs' at what the point leaves. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => outO m hO c t
    | ⟨7, _⟩ => outE m hO c t
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = outO m hO c t := by dsimp only [dats]; try rfl
theorem after0_7 (hO : Ok m) (c : Dev nD) (t : Fin (cfgM m hO).N) : (dats m hO 0 c).after 7 t = outE m hO c t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d

/-! ## The body obligation, at a generic point -/

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t)

/-- Window 0 leaves its buffer at what the proof data say. -/
theorem leaves_0 (hO : Ok m) (c : Dev nD) (t : Fin (cfgM m hO).N) :
    (dats m hO 0 c).leavesExact 0 t = owns (c : Thread nD τ) (ms0_0 m hO t) fullShare (iblk m hO c 0 t) := by
  unfold Dat.leavesExact; rw [liveAt0_0 m hO t]; exact congrArg (owns (c : Thread nD τ) (ms0_0 m hO t) fullShare) (after0_0 m hO c t)
/-- Window 1 leaves its buffer at what the proof data say. -/
theorem leaves_1 (hO : Ok m) (c : Dev nD) (t : Fin (cfgM m hO).N) :
    (dats m hO 0 c).leavesExact 1 t = owns (c : Thread nD τ) (ms0_1 m hO t) fullShare (iblk m hO c 1 t) := by
  unfold Dat.leavesExact; rw [liveAt0_1 m hO t]; exact congrArg (owns (c : Thread nD τ) (ms0_1 m hO t) fullShare) (after0_1 m hO c t)
/-- Window 2 leaves its buffer at what the proof data say. -/
theorem leaves_2 (hO : Ok m) (c : Dev nD) (t : Fin (cfgM m hO).N) :
    (dats m hO 0 c).leavesExact 2 t = owns (c : Thread nD τ) (ms0_2 m hO t) fullShare (iblk m hO c 2 t) := by
  unfold Dat.leavesExact; rw [liveAt0_2 m hO t]; exact congrArg (owns (c : Thread nD τ) (ms0_2 m hO t) fullShare) (after0_2 m hO c t)
/-- Window 3 leaves its buffer at what the proof data say. -/
theorem leaves_3 (hO : Ok m) (c : Dev nD) (t : Fin (cfgM m hO).N) :
    (dats m hO 0 c).leavesExact 3 t = owns (c : Thread nD τ) (ms0_3 m hO t) fullShare (iblk m hO c 3 t) := by
  unfold Dat.leavesExact; rw [liveAt0_3 m hO t]; exact congrArg (owns (c : Thread nD τ) (ms0_3 m hO t) fullShare) (after0_3 m hO c t)
/-- Window 4 leaves its buffer at what the proof data say. -/
theorem leaves_4 (hO : Ok m) (c : Dev nD) (t : Fin (cfgM m hO).N) :
    (dats m hO 0 c).leavesExact 4 t = owns (c : Thread nD τ) (ms0_4 m hO t) fullShare (iblk m hO c 4 t) := by
  unfold Dat.leavesExact; rw [liveAt0_4 m hO t]; exact congrArg (owns (c : Thread nD τ) (ms0_4 m hO t) fullShare) (after0_4 m hO c t)
/-- Window 5 leaves its buffer at what the proof data say. -/
theorem leaves_5 (hO : Ok m) (c : Dev nD) (t : Fin (cfgM m hO).N) :
    (dats m hO 0 c).leavesExact 5 t = owns (c : Thread nD τ) (ms0_5 m hO t) fullShare (iblk m hO c 5 t) := by
  unfold Dat.leavesExact; rw [liveAt0_5 m hO t]; exact congrArg (owns (c : Thread nD τ) (ms0_5 m hO t) fullShare) (after0_5 m hO c t)
/-- Window 6 leaves its buffer at what the proof data say. -/
theorem leaves_6 (hO : Ok m) (c : Dev nD) (t : Fin (cfgM m hO).N) :
    (dats m hO 0 c).leavesExact 6 t = owns (c : Thread nD τ) (ms0_6 m hO t) fullShare (outO m hO c t) := by
  unfold Dat.leavesExact; rw [liveAt0_6 m hO t]; exact congrArg (owns (c : Thread nD τ) (ms0_6 m hO t) fullShare) (after0_6 m hO c t)
/-- Window 7 leaves its buffer at what the proof data say. -/
theorem leaves_7 (hO : Ok m) (c : Dev nD) (t : Fin (cfgM m hO).N) :
    (dats m hO 0 c).leavesExact 7 t = owns (c : Thread nD τ) (ms0_7 m hO t) fullShare (outE m hO c t) := by
  unfold Dat.leavesExact; rw [liveAt0_7 m hO t]; exact congrArg (owns (c : Thread nD τ) (ms0_7 m hO t) fullShare) (after0_7 m hO c t)

set_option maxHeartbeats 3200000 in
/-- The body at any point: it is handed the blocks and the scratch, and leaves them as the proof data say. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  rw [leaves_0, leaves_1, leaves_2, leaves_3, leaves_4, leaves_5, leaves_6, leaves_7, PhiS_castSucc m hO c t]
  have run := fun (d6 : Vec F S1x64x32x512 .bf16) (d7 : Vec F S1x64x32 .f32) (s : Vec F S384x512 .bf16) =>
    body_runs c (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) (grid0.coords t) (tbl m 0) (insAt m hO c t) d6 d7 s Set.univ
  by_cases hz : t.val = 0
  · rw [PhiS_zero m hO c _ _ hz, PhiT0_eq, PhiA0_eq]
    simp only [scr_first m hO c t hz] at run
    iintro ⟨⟨⟨⟨%ds, HS⟩, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run ((dats m hO 0 c).before 6 t d6) ((dats m hO 0 c).before 7 t d7) ds _)
    unfold heldT held
    isplitl [H0 H1 H2 H3 H4 H5 H6 H7 HS HT]
    · isplitl [H0 H1 H2 H3 H4 H5 H6 H7 HS]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact HS
      iexact HT
    iintro ⟨⟨H0, H1, H2, H3, H4, H5, H6, H7, HS⟩, HT⟩
    isplitl [HS Hg HT]
    · isplitl [HS Hg]
      · isplitl [HS]
        · iexact HS
        iexact Hg
      iexact HT
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [PhiS_pos m hO c _ _ hz, PhiT0_eq]
    have hs := scr_step m hO c t hz
    replace run := fun d6 d7 => run d6 d7 (scr m hO c (t.val - 1) (by have := t.isLt; omega))
    rw [hs] at run
    iintro ⟨⟨⟨HS, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run ((dats m hO 0 c).before 6 t d6) ((dats m hO 0 c).before 7 t d7) _)
    unfold heldT held
    isplitl [H0 H1 H2 H3 H4 H5 H6 H7 HS HT]
    · isplitl [H0 H1 H2 H3 H4 H5 H6 H7 HS]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact HS
      iexact HT
    iintro ⟨⟨H0, H1, H2, H3, H4, H5, H6, H7, HS⟩, HT⟩
    isplitl [HS Hg HT]
    · isplitl [HS Hg]
      · isplitl [HS]
        · iexact HS
        iexact Hg
      iexact HT
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨HS0, Hg⟩, -⟩
  isplitl [HS0]
  · iexists _; iexact HS0
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 18 := N_0; omega)

/-! ## The run and the frame -/

-- `θ_run_frameP_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO) (A_eq m hO) (run_main m ρ hO)

/-- THE FRAME: every execution ends, without a fault, with the arguments unchanged and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_main_quiescent m ρ hO))

end Cert.Kernel.Body

end
-- ==== Proof.Words.lean ====
/- The word arithmetic of the kernel's query windows: which block of queries a grid point reads, and whether it has any
   token of its sequence. -/
module

public import proofs.«01_k».proof.Proof.Payload
public import Idealize.ShloMosaic.Lib.Routing.Words
public import Idealize.ShloMosaic.Lib.WordCmp

@[expose] public section

noncomputable section

namespace Cert.Mla

open Idealize.ShloMosaic Idealize.ShloMosaic.WordCmp Idealize.ShloMosaic.ValueIdx Idealize.ShloMosaic.Routing

/-- The block of queries that the windows read at the grid point `i1` of a sequence of `n` tokens: `min i1 ((n - 1) / 64)`,
    the quotient rounded down, as the index maps compute it. -/
def blk (i1 : ℕ) (n : BitVec 32) : BitVec 32 :=
  Scalar.minsi (BitVec.ofNat 32 i1)
    (Scalar.select
      (Scalar.andi
        (Scalar.cmpi .ne
          (Scalar.subi (Scalar.extui (Scalar.cmpi .sgt (Scalar.subi n 1#32) 0#32)) (Scalar.extui (Scalar.cmpi .slt (Scalar.subi n 1#32) 0#32)) : BitVec 32)
          (Scalar.subi (Scalar.extui (Scalar.cmpi .sgt 64#32 0#32)) (Scalar.extui (Scalar.cmpi .slt 64#32 0#32))))
        (Scalar.cmpi .ne (Scalar.remsi (Scalar.subi n 1#32) 64#32) 0#32))
      (Scalar.subi (Scalar.divsi (Scalar.subi n 1#32) 64#32) 1#32)
      (Scalar.divsi (Scalar.subi n 1#32) 64#32))

/-- A positive word, as the word of a natural number. -/
theorem pos_word (n : BitVec 32) (h : Scalar.cmpi .sge n 1#32 = 1#1) : ∃ a : ℕ, n = BitVec.ofNat 32 (a + 1) ∧ a + 1 < 2 ^ 31 := by
  have h' : (1#32 : BitVec 32).sle n = true := by
    have h2 : BitVec.ofBool ((1#32 : BitVec 32).sle n) = 1#1 := h
    cases e : (1#32 : BitVec 32).sle n
    · rw [e] at h2; exact absurd h2 (by decide)
    · rfl
  have hn : n.toNat < 2 ^ 32 := n.isLt
  rw [BitVec.sle_iff_toInt_le] at h'
  have h1 : (1#32 : BitVec 32).toInt = 1 := by decide
  rw [h1, BitVec.toInt_eq_toNat_cond] at h'
  refine ⟨n.toNat - 1, ?_, ?_⟩
  · have : n.toNat - 1 + 1 = n.toNat := by split at h' <;> omega
    rw [this, BitVec.ofNat_toNat, BitVec.setWidth_eq]
  · split at h' <;> omega

theorem blk_word {i1 a : ℕ} (hi : i1 < 6) (ha : a + 1 < 2 ^ 31) : blk i1 (BitVec.ofNat 32 (a + 1)) = BitVec.ofNat 32 (min i1 (a / 64)) := by
  have e : Scalar.subi (BitVec.ofNat 32 (a + 1)) 1#32 = BitVec.ofNat 32 a := by
    show BitVec.ofNat 32 (a + 1) - BitVec.ofNat 32 1 = _
    rw [ofNat32_sub (by omega)]; rfl
  unfold blk
  rw [e]
  have hd : Scalar.divsi (BitVec.ofNat 32 a) 64#32 = BitVec.ofNat 32 (a / 64) := Routing.divsi_word _ (by omega) (by decide) (by decide)
  have hr : Scalar.remsi (BitVec.ofNat 32 a) 64#32 = BitVec.ofNat 32 (a % 64) := Routing.remsi_word _ (by omega) (by decide) (by decide)
  rw [hd, hr]
  have hm : Scalar.minsi (BitVec.ofNat 32 i1) (BitVec.ofNat 32 (a / 64)) = BitVec.ofNat 32 (min i1 (a / 64)) := by
    show IntOp.minsi _ _ = _
    unfold IntOp.minsi
    rw [slt_ofNat32 (by omega) (by omega)]
    by_cases h : i1 < a / 64
    · simp [h, Nat.min_eq_left (Nat.le_of_lt h)]
    · simp [h, Nat.min_eq_right (Nat.le_of_not_lt h)]
  by_cases h0 : a = 0
  · subst h0
    rw [← hm]; decide +revert
  · have s1 : (Scalar.cmpi .sgt (BitVec.ofNat 32 a) 0#32) = 1#1 := by
      show BitVec.ofBool ((BitVec.ofNat 32 0).slt (BitVec.ofNat 32 a)) = 1#1
      rw [slt_ofNat32 (by decide) (by omega), decide_eq_true (by omega)]; rfl
    have s2 : (Scalar.cmpi .slt (BitVec.ofNat 32 a) 0#32) = 0#1 := by
      show BitVec.ofBool ((BitVec.ofNat 32 a).slt (BitVec.ofNat 32 0)) = 0#1
      rw [slt_ofNat32 (by omega) (by decide), decide_eq_false (by omega)]
      rfl
    rw [s1, s2]
    have hb : ∀ (v : BitVec 1) (x y : BitVec 32), Scalar.select (Scalar.andi (Scalar.cmpi .ne (Scalar.subi (Scalar.extui 1#1) (Scalar.extui 0#1) : BitVec 32)
          (Scalar.subi (Scalar.extui (Scalar.cmpi .sgt 64#32 0#32)) (Scalar.extui (Scalar.cmpi .slt 64#32 0#32)))) v) x y = y := by
      intro v x y
      have : ∀ v : BitVec 1, Scalar.andi (Scalar.cmpi .ne (Scalar.subi (Scalar.extui 1#1) (Scalar.extui 0#1) : BitVec 32)
          (Scalar.subi (Scalar.extui (Scalar.cmpi .sgt 64#32 0#32)) (Scalar.extui (Scalar.cmpi .slt 64#32 0#32)))) v = 0#1 := by decide
      rw [this v]; rfl
    rw [hb, hm]

/-- The block is inside the array, -/
theorem blk_lt {i1 : ℕ} (hi : i1 < 6) (n : BitVec 32) (h : Scalar.cmpi .sge n 1#32 = 1#1) : (blk i1 n).toNat < 6 := by
  obtain ⟨a, rfl, ha⟩ := pos_word n h
  rw [blk_word hi ha, BitVec.toNat_ofNat]
  have : min i1 (a / 64) ≤ i1 := Nat.min_le_left _ _
  have : min i1 (a / 64) % 2 ^ 32 = min i1 (a / 64) := Nat.mod_eq_of_lt (by omega)
  omega

/-- and is the grid point's own if that has a token of its sequence. -/
theorem blk_act {i1 : ℕ} (hi : i1 < 6) (n : BitVec 32) (h : Scalar.cmpi .sge n 1#32 = 1#1) (ha : Scalar.cmpi .slt (startPos i1) n = 1#1) :
    (blk i1 n).toNat = i1 := by
  obtain ⟨a, rfl, hb⟩ := pos_word n h
  have hs : startPos i1 = BitVec.ofNat 32 (i1 * 64) := by
    show BitVec.ofNat 32 i1 * BitVec.ofNat 32 64 = _
    rw [← BitVec.ofNat_mul]
  have : i1 * 64 < a + 1 := by
    rw [hs] at ha
    have ha' : BitVec.ofBool ((BitVec.ofNat 32 (i1 * 64)).slt (BitVec.ofNat 32 (a + 1))) = 1#1 := ha
    rw [slt_ofNat32 (by omega) (by omega)] at ha'
    by_contra hc
    simp [hc] at ha'
  rw [blk_word hi hb, BitVec.toNat_ofNat, Nat.min_eq_left (by omega), Nat.mod_eq_of_lt (by omega)]

/-- The choice by `k ≤ t`, over words. -/
theorem select_sle {α : Type} (k t : ℕ) (hk : k < 2 ^ 31) (ht : t < 2 ^ 31) (x y : α) :
    Scalar.select (IntOp.cmpi .sle (BitVec.ofNat 32 k) (BitVec.ofNat 32 t)) x y = if k ≤ t then x else y := by
  have e : IntOp.cmpi .sle (BitVec.ofNat 32 k) (BitVec.ofNat 32 t) = BitVec.ofBool (decide (k ≤ t)) := by
    show BitVec.ofBool ((BitVec.ofNat 32 k).sle (BitVec.ofNat 32 t)) = _
    rw [sle_ofNat32 hk ht]
  rw [e]
  by_cases h : k ≤ t
  · rw [if_pos h, decide_eq_true h]; rfl
  · rw [if_neg h, decide_eq_false h]; rfl

end Cert.Mla
end
-- ==== Proof.Kernel.Ok.lean ====
/- The windows of `Kernel` lie inside their arrays when every sequence has a token, and so its frame holds then. -/
module

public import proofs.«01_k».proof.Defs
public import proofs.«01_k».proof.Proof.Kernel.Frame
public import proofs.«01_k».proof.Proof.Words
public import proofs.«01_k».proof.Proof.Gen.Pre_lengths_positive

@[expose] public section

noncomputable section

namespace Cert.Kernel.Body

open Idealize.ShloMosaic Idealize.ShloMosaic.TcCoe
open Cert.Kernel Cert.Kernel.Gen Cert.Mla

variable {F : FTy → Type} [FloatOps F]
variable (m : (ℓ : Loc nD τ sig) → Buf (Elt F) ℓ)

/-- Every word of the table of lengths is positive. -/
abbrev Pos : Prop := ∀ x : S3.Idx, Scalar.cmpi .sge (m (((0 : Dev nD) : Thread nD τ).loc main_arg6) x) 1#32 = 1#1

theorem tbl_eq : tbl m 0 = m (((0 : Dev nD) : Thread nD τ).loc main_arg6) := V_main_arg6 m 0

theorem tbl_pos (h : Pos m) (x : S3.Idx) : Scalar.cmpi .sge (tbl m 0 x) 1#32 = 1#1 := by
  rw [tbl_eq]; exact h x

theorem seq_inb (i : grid0.Coords) : ((BitVec.ofNat 32 (i 0).val).toNat + 1) * 1 ≤ 3 := by
  have h : (i 0).val < 3 := (i 0).isLt
  rw [BitVec.toNat_ofNat, Nat.mod_eq_of_lt (by omega)]; omega

theorem blk_inb (i : grid0.Coords) (n : BitVec 32) (h : Scalar.cmpi .sge n 1#32 = 1#1) : ((blk (i 1).val n).toNat + 1) * 64 ≤ 384 := by
  have := blk_lt (i1 := (i 1).val) (i 1).isLt n h; omega

/-- The windows that read the table lie inside their arrays. -/
theorem ok_of_pos (h : Pos m) : Ok m := by
  refine ⟨fun i => ⟨fun a => ?_, .inr (Affine.block_words_dvd (of_decide_eq_true rfl) (by decide))⟩,
    fun i => ⟨fun a => ?_, .inl rfl⟩,
    fun i => ⟨fun a => ?_, .inr (Affine.block_words_dvd (of_decide_eq_true rfl) (by decide))⟩⟩
  · match a with
    | ⟨0, _⟩ => exact seq_inb i
    | ⟨1, _⟩ => exact blk_inb i _ (tbl_pos m h _)
    | ⟨2, _⟩ => exact le_refl _
    | ⟨3, _⟩ => exact le_refl _
  · match a with
    | ⟨0, _⟩ => exact seq_inb i
    | ⟨1, _⟩ => exact blk_inb i _ (tbl_pos m h _)
    | ⟨2, _⟩ => exact le_refl _
  · match a with
    | ⟨0, _⟩ => exact seq_inb i
    | ⟨1, _⟩ => exact blk_inb i _ (tbl_pos m h _)
    | ⟨2, _⟩ => exact le_refl _
    | ⟨3, _⟩ => exact le_refl _

/-- The precondition of the claims says that every length is positive. -/
theorem pos_of_pre (m : (ℓ : Loc nD τ sig) → Buf (Elt Bits) ℓ) (h : Cert.Pre_Kernel m) : Pos m := fun x => congrFun (h 0) x

end Cert.Kernel.Body
end
-- ==== Proof.KernelIdeal.Body.lean ====
/- The kernel's body in short form: one window attended over the first `nk` keys (`attend`), eight tokens at a time
   (`chunk`), or a window past the sequence's end zeroed (`pad`) — and the printed body IS this form (`body_eq`). -/
module

public import proofs.«01_k».proof.Proof.Payload
public import proofs.«01_k».proof.Proof.Gen.KernelIdeal.Launch
public import Idealize.ShloMosaic.Lib.Pipeline.Regions

@[expose] public section

noncomputable section

namespace Cert.KernelIdeal.Body

open Idealize.ShloMosaic Idealize.ShloMosaic.TcCoe Idealize.SL.Sem
open Cert.KernelIdeal Cert.Mla Facts₀ Facts

variable {F : FTy → Type} [FloatOps F] [Named F]

/-- The kernel's three constants: the score scale times log₂ e, log₂ e, and the logarithm of two. -/
abbrev cC : F .f32 := Named.named κ "scale_log2e" 0x3DD53B95#32
abbrev cL : F .f32 := Named.named κ "log2e" 0x3FB8AA3B#32
abbrev cN : F .f32 := Named.named κ "ln2" 0x3F317218#32

/-- A chunk's rows of the output window are whole packed rows. -/
theorem packed_chunk (j : ℕ) (hj : j < 8) :
    (Rect.unit (s := S1x64x32x512) ![0, 8 * j, 0, 0] S1x8x32x512.size (inb_chunk 512 j hj)).PackedRows (EltTy.packing .bf16) := by
  match j, hj with
  | 0, _ => exact packedbf16_S1x64x32x512_S1x8x32x512_0_0_0_0
  | 1, _ => exact packedbf16_S1x64x32x512_S1x8x32x512_0_8_0_0
  | 2, _ => exact packedbf16_S1x64x32x512_S1x8x32x512_0_16_0_0
  | 3, _ => exact packedbf16_S1x64x32x512_S1x8x32x512_0_24_0_0
  | 4, _ => exact packedbf16_S1x64x32x512_S1x8x32x512_0_32_0_0
  | 5, _ => exact packedbf16_S1x64x32x512_S1x8x32x512_0_40_0_0
  | 6, _ => exact packedbf16_S1x64x32x512_S1x8x32x512_0_48_0_0
  | 7, _ => exact packedbf16_S1x64x32x512_S1x8x32x512_0_56_0_0
  | k + 8, h => omega

section

variable (arg2 : Memref sig .tc .smem S3 .i32) (harg2 : arg2.IsWhole) (arg3 : Memref sig .tc .vmem S1x64x32x512 .fp8e4m3) (harg3 : arg3.IsWhole) (arg4 : Memref sig .tc .vmem S1x64x32 .f32) (harg4 : arg4.IsWhole) (arg5 : Memref sig .tc .vmem S1x64x32x64 .bf16) (harg5 : arg5.IsWhole) (arg6 : Memref sig .tc .vmem S1x384x512 .fp8e4m3) (harg6 : arg6.IsWhole) (arg7 : Memref sig .tc .vmem S1x1x384 .f32) (harg7 : arg7.IsWhole) (arg8 : Memref sig .tc .vmem S1x384x64 .bf16) (harg8 : arg8.IsWhole) (arg9 : Memref sig .tc .vmem S1x64x32x512 .bf16) (harg9 : arg9.IsWhole) (arg10 : Memref sig .tc .vmem S1x64x32 .f32) (harg10 : arg10.IsWhole) (arg11 : Memref sig .tc .vmem S384x512 .bf16) (harg11 : arg11.IsWhole)

/-- Eight tokens: their queries loaded, their rows over the keys, their output block stored; the log-sum-exp
    columns go on in `acc`. -/
def chunk (nk : ℕ) (h0 : 0 < nk) (h1 : nk ≤ 384) (row : RowFn F nk) (x : Ctx F) (n : BitVec 32)
    (ck : FVec F (Mat nk 512) .fp8e4m3) (kr : FVec F (Mat nk 64) .bf16) (j : ℕ) (hj : j < 8)
    (acc : FVec F (Mat 32 64) .f32) : Prog (TpuEff nD τ sig (Elt F) Λ₀ .tc) (FVec F (Mat 32 64) .f32) := do
  let q : Vec F S1x8x32x512 .fp8e4m3 ← Prog.lift (.load arg3 (Rect.unit (s := S1x64x32x512) ![0, 8 * j, 0, 0] S1x8x32x512.size (inb_chunk 512 j hj)).toLoadRect (View.loadsAt_vmem h_S1x8x32x512))
  let qr : Vec F S1x8x32x64 .bf16 ← Prog.lift (.load arg5 (Rect.unit (s := S1x64x32x64) ![0, 8 * j, 0, 0] S1x8x32x64.size (inb_chunk 64 j hj)).toLoadRect (View.loadsAt_vmem h_S1x8x32x64))
  let cb : Vec F (Mat nk 512) .bf16 ← Prog.lift (.load arg11 (Rect.unit (s := S384x512) ![0, 0] (Mat nk 512).size (inb_cb nk h1)).toLoadRect (View.loadsAt_vmem (numel_cb nk h0)))
  let _o : Vec F S1x8x32x512 .bf16 ← Prog.lift (.load arg9 (Rect.unit (s := S1x64x32x512) ![0, 8 * j, 0, 0] S1x8x32x512.size (inb_chunk 512 j hj)).toLoadRect (View.loadsAt_vmem h_S1x8x32x512))
  Prog.lift (.store arg9 (Rect.unit (s := S1x64x32x512) ![0, 8 * j, 0, 0] S1x8x32x512.size (inb_chunk 512 j hj)) (outChunk n x.t0 j (rows8 fun t ht => (row x (latScores q ck) (ropeScores qr kr) j t hj ht).w) cb) Finset.univ (View.stores_vmem h_S1x8x32x512 (harg9.storeExact_slice rfl _ (packed_chunk j hj)) (fun _ => rfl)) (.inl rfl))
  pure (putChunk j (fun t ht => lseCol cL cN (row x (latScores q ck) (ropeScores qr kr) j t hj ht).m (row x (latScores q ck) (ropeScores qr kr) j t hj ht).l) acc)

/-- A window attended over the first `nk` keys. -/
def attend (nk : ℕ) (h0 : 0 < nk) (h1 : nk ≤ 384) (row : RowFn F nk) (n t0 : BitVec 32) :
    Prog (TpuEff nD τ sig (Elt F) Λ₀ .tc) PUnit := do
  let qs : Vec F S1x64x32 .f32 ← Prog.lift (.load arg4 (Rect.unit (s := S1x64x32) ![0, 0, 0] S1x64x32.size inb_S1x64x32_S1x64x32_0_0_0).toLoadRect (View.loadsAt_vmem h_S1x64x32))
  let cs : Vec F S1x1x384 .f32 ← Prog.lift (.load arg7 (Rect.unit (s := S1x1x384) ![0, 0, 0] S1x1x384.size inb_S1x1x384_S1x1x384_0_0_0).toLoadRect (View.loadsAt_vmem h_S1x1x384))
  let ck : Vec F ⟨3, ![1, nk, 512]⟩ .fp8e4m3 ← Prog.lift (.load arg6 (Rect.unit (s := S1x384x512) ![0, 0, 0] (⟨3, ![1, nk, 512]⟩ : Shape).size (inb_keys 512 nk h1)).toLoadRect (View.loadsAt_vmem (numel_keys 512 nk (by decide) h0)))
  let kr : Vec F ⟨3, ![1, nk, 64]⟩ .bf16 ← Prog.lift (.load arg8 (Rect.unit (s := S1x384x64) ![0, 0, 0] (⟨3, ![1, nk, 64]⟩ : Shape).size (inb_keys 64 nk h1)).toLoadRect (View.loadsAt_vmem (numel_keys 64 nk (by decide) h0)))
  let a0 ← chunk arg3 arg5 arg9 harg9 arg11 nk h0 h1 row ⟨cC, scaledQs cC qs, csRow cs, t0⟩ n (dropLead 512 nk ck) (dropLead 64 nk kr) 0 (by decide) (broadcast (Mat 32 64) (Scalar.ofBits .f32 0x00000000#32 : F .f32))
  let a1 ← chunk arg3 arg5 arg9 harg9 arg11 nk h0 h1 row ⟨cC, scaledQs cC qs, csRow cs, t0⟩ n (dropLead 512 nk ck) (dropLead 64 nk kr) 1 (by decide) a0
  let a2 ← chunk arg3 arg5 arg9 harg9 arg11 nk h0 h1 row ⟨cC, scaledQs cC qs, csRow cs, t0⟩ n (dropLead 512 nk ck) (dropLead 64 nk kr) 2 (by decide) a1
  let a3 ← chunk arg3 arg5 arg9 harg9 arg11 nk h0 h1 row ⟨cC, scaledQs cC qs, csRow cs, t0⟩ n (dropLead 512 nk ck) (dropLead 64 nk kr) 3 (by decide) a2
  let a4 ← chunk arg3 arg5 arg9 harg9 arg11 nk h0 h1 row ⟨cC, scaledQs cC qs, csRow cs, t0⟩ n (dropLead 512 nk ck) (dropLead 64 nk kr) 4 (by decide) a3
  let a5 ← chunk arg3 arg5 arg9 harg9 arg11 nk h0 h1 row ⟨cC, scaledQs cC qs, csRow cs, t0⟩ n (dropLead 512 nk ck) (dropLead 64 nk kr) 5 (by decide) a4
  let a6 ← chunk arg3 arg5 arg9 harg9 arg11 nk h0 h1 row ⟨cC, scaledQs cC qs, csRow cs, t0⟩ n (dropLead 512 nk ck) (dropLead 64 nk kr) 6 (by decide) a5
  let a7 ← chunk arg3 arg5 arg9 harg9 arg11 nk h0 h1 row ⟨cC, scaledQs cC qs, csRow cs, t0⟩ n (dropLead 512 nk ck) (dropLead 64 nk kr) 7 (by decide) a6
  let _e : Vec F S1x64x32 .f32 ← Prog.lift (.load arg10 (Rect.unit (s := S1x64x32) ![0, 0, 0] S1x64x32.size inb_S1x64x32_S1x64x32_0_0_0).toLoadRect (View.loadsAt_vmem h_S1x64x32))
  Prog.lift (.store arg10 (Rect.unit (s := S1x64x32) ![0, 0, 0] S1x64x32.size inb_S1x64x32_S1x64x32_0_0_0) (outLse n t0 a7) Finset.univ (View.stores_vmem_bits_univ h_S1x64x32 rfl) (.inl rfl))

/-- A window past the sequence's end: zeros. -/
def pad : Prog (TpuEff nD τ sig (Elt F) Λ₀ .tc) PUnit := do
  let _o : Vec F S1x64x32x512 .bf16 ← Prog.lift (.load arg9 (Rect.unit (s := S1x64x32x512) ![0, 0, 0, 0] S1x64x32x512.size inb_S1x64x32x512_S1x64x32x512_0_0_0_0).toLoadRect (View.loadsAt_vmem h_S1x64x32x512))
  Prog.lift (.store arg9 (Rect.unit (s := S1x64x32x512) ![0, 0, 0, 0] S1x64x32x512.size inb_S1x64x32x512_S1x64x32x512_0_0_0_0) (broadcast S1x64x32x512 (Scalar.ofBits .bf16 0x0000#16 : F .bf16)) Finset.univ (View.stores_vmem h_S1x64x32x512 (harg9.storeExact_slice rfl _ packedbf16_S1x64x32x512_S1x64x32x512_0_0_0_0) (fun _ => rfl)) (.inl rfl))
  let _e : Vec F S1x64x32 .f32 ← Prog.lift (.load arg10 (Rect.unit (s := S1x64x32) ![0, 0, 0] S1x64x32.size inb_S1x64x32_S1x64x32_0_0_0).toLoadRect (View.loadsAt_vmem h_S1x64x32))
  Prog.lift (.store arg10 (Rect.unit (s := S1x64x32) ![0, 0, 0] S1x64x32.size inb_S1x64x32_S1x64x32_0_0_0) (broadcast S1x64x32 (Scalar.ofBits .f32 0x00000000#32 : F .f32)) Finset.univ (View.stores_vmem_bits_univ h_S1x64x32 rfl) (.inl rfl))

/-- The codes of the batch widened into the scratch. -/
def fill : Prog (TpuEff nD τ sig (Elt F) Λ₀ .tc) PUnit := do
  let c : Vec F S1x384x512 .fp8e4m3 ← Prog.lift (.load arg6 (Rect.unit (s := S1x384x512) ![0, 0, 0] S1x384x512.size inb_S1x384x512_S1x384x512_0_0_0).toLoadRect (View.loadsAt_vmem h_S1x384x512))
  let _s : Vec F S384x512 .bf16 ← Prog.lift (.load arg11 (Rect.unit (s := S384x512) ![0, 0] S384x512.size inb_S384x512_S384x512_0_0).toLoadRect (View.loadsAt_vmem h_S384x512))
  Prog.lift (.store arg11 (Rect.unit (s := S384x512) ![0, 0] S384x512.size inb_S384x512_S384x512_0_0) (widen c) Finset.univ (View.stores_vmem h_S384x512 (harg11.storeExact_slice rfl _ packedbf16_S384x512_S384x512_0_0) (fun _ => rfl)) (.inl rfl))

/-- The window is its batch's first. -/
abbrev isFirst (i : grid0.Coords) : BitVec 1 :=
  Scalar.cmpi .ne (Scalar.extui (Scalar.cmpi .eq (BitVec.ofNat 32 (i 1).val) 0#32)) 0#32

/-- The word the kernel carries out of its first part: the length word, the window's first position, and the values
    from which it finds the window's block of keys. -/
abbrev HeadVals (F : FTy → Type) : Type :=
  Σ' (v1 : Elt F .i32) (v2 : BitVec 32) (v6 : BitVec 1) (c128 : BitVec 32) (v28 : BitVec 32) (v33 : BitVec 32), BitVec 32

/-- The body up to its first block of keys. -/
def head (i : grid0.Coords) : Prog (TpuEff nD τ sig (Elt F) Λ₀ .tc) (HeadVals F) := do
  let n : Elt F .i32 ← smemLoad arg2 (Rect.unit (s := S3) (k0_off1 i) S1.size (k0_off1_inb i)) numel1_S1 rfl
  if _h1 : isFirst i = 1#1 then do
    fill arg6 arg11 harg11
    pure ⟨⟩
  else do
    pure ⟨⟩
  if _h2 : k0_cond2 i n = 1#1 then do
    attend arg3 arg4 arg5 arg6 arg7 arg8 arg9 harg9 arg10 arg11 128 (by decide) (by decide) row1 n (startPos (i 1).val)
    pure ⟨⟩
  else do
    pure ⟨⟩
  pure ⟨n, startPos (i 1).val, Scalar.cmpi .slt (startPos (i 1).val) n, 128#32, Scalar.divsi (startPos (i 1).val) 128#32,
    Scalar.subi (Scalar.extui (Scalar.cmpi .sgt (startPos (i 1).val) 0#32)) (Scalar.extui (Scalar.cmpi .slt (startPos (i 1).val) 0#32)),
    Scalar.subi (Scalar.extui (Scalar.cmpi .sgt 128#32 0#32)) (Scalar.extui (Scalar.cmpi .slt 128#32 0#32))⟩

/-- The body. -/
def short (i : grid0.Coords) : Prog (TpuEff nD τ sig (Elt F) Λ₀ .tc) PUnit := do
  let ⟨n, t0, v6, c128, v28, v33, v38⟩ : HeadVals F ← head arg2 arg3 arg4 arg5 arg6 arg7 arg8 arg9 harg9 arg10 arg11 harg11 i
  if _h3 : k0_cond3 i n = 1#1 then do
    attend arg3 arg4 arg5 arg6 arg7 arg8 arg9 harg9 arg10 arg11 256 (by decide) (by decide) row2 n t0
    pure ⟨⟩
  else do
    pure ⟨⟩
  if _h4 : k0_cond4 i n = 1#1 then do
    attend arg3 arg4 arg5 arg6 arg7 arg8 arg9 harg9 arg10 arg11 384 (by decide) (by decide) row3 n t0
    pure ⟨⟩
  else do
    pure ⟨⟩
  if _h5 : k0_cond5 i n = 1#1 then do
    pad arg9 harg9 arg10
    pure ⟨⟩
  else do
    pure ⟨⟩
  pure ⟨⟩

set_option maxRecDepth 65536 in
/-- The first part as printed. -/
theorem head_eq (i : grid0.Coords) :
    k0_part267 (F := F) i arg2 harg2 arg3 harg3 arg4 harg4 arg5 harg5 arg6 harg6 arg7 harg7 arg8 harg8 arg9 harg9 arg10 harg10 arg11 harg11
      = head arg2 arg3 arg4 arg5 arg6 arg7 arg8 arg9 harg9 arg10 arg11 harg11 i := by
  chain_rfl

set_option maxRecDepth 65536 in
/-- The printed body is the short form. -/
theorem body_eq (i : grid0.Coords) :
    cc0_mla_prefill (F := F) i arg2 harg2 arg3 harg3 arg4 harg4 arg5 harg5 arg6 harg6 arg7 harg7 arg8 harg8 arg9 harg9 arg10 harg10 arg11 harg11
      = short arg2 arg3 arg4 arg5 arg6 arg7 arg8 arg9 harg9 arg10 arg11 harg11 i := by
  chain_rfl

end

end Cert.KernelIdeal.Body
end
-- ==== Proof.KernelIdeal.Run.lean ====
/- The kernel's body run: each of its pieces as a triple over what it holds — the six blocks it reads, the two it
   writes, the scratch and the table of lengths —, and from them what one grid point leaves (`body_runs`). -/
module

public import proofs.«01_k».proof.Proof.KernelIdeal.Body
public import Idealize.ShloMosaic.Lib.Pipeline.FrameBody
public import Idealize.ShloMosaic.Lib.Ring
public import Idealize.ShloMosaic.Lib.Tactic
public import Idealize.ShloMosaic.Lib.VecWindow

@[expose] public section

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.Mla Facts₀ Facts

variable {F : FTy → Type} [FloatOps F] [Named F]

local notation "𝕄" => MT nD τ sig Unit (Elt F) ℕ (UR sig nD τ) ℕ

/-- The program `p`, started with `P`, returns `a` and leaves `P'`. -/
def Runs (c : Dev nD) {A : Type} (p : Prog (TpuEff nD τ sig (Elt F) Λ₀ .tc) A) (P : sProp 𝕄) (a : A) (P' : sProp 𝕄) : Prop :=
  ∀ (E : Set ℕ) (K : A → sProp 𝕄), iprop(P ∗ (P' -∗ K a)) ⊢ wp frame (wpE (defs₀ (F := F)) Variants.none c none) E p K

variable (c : Dev nD)

theorem Runs.ret {A : Type} (a : A) (P : sProp 𝕄) : Runs (F := F) c (pure a) P a P := fun E K => by
  iintro ⟨H, Hk⟩
  iapply (le_wp_ret frame (wpE (defs₀ (F := F)) Variants.none c none) E a K)
  iapply Hk; iexact H

theorem Runs.seq {A B : Type} {p : Prog (TpuEff nD τ sig (Elt F) Λ₀ .tc) A} {k : A → Prog (TpuEff nD τ sig (Elt F) Λ₀ .tc) B}
    {P P' P'' : sProp 𝕄} {a : A} {b : B} (hp : Runs c p P a P') (hk : Runs c (k a) P' b P'') : Runs c (p >>= k) P b P'' := fun E K => by
  rw [wp_bind]
  iintro ⟨H, Hk⟩
  iapply (hp E (fun a => wp frame (wpE (defs₀ (F := F)) Variants.none c none) E (k a) K))
  isplitl [H]; · iexact H
  iintro H
  iapply (hk E K)
  isplitl [H]; · iexact H
  iexact Hk

/-- A conditional that is taken, and one that is not. -/
theorem Runs.ifTrue {A : Type} {q : Prop} [Decidable q] (hq : q) {p : q → Prog (TpuEff nD τ sig (Elt F) Λ₀ .tc) A}
    {p' : ¬q → Prog (TpuEff nD τ sig (Elt F) Λ₀ .tc) A} {P P' : sProp 𝕄} {a : A} (h : Runs c (p hq) P a P') : Runs c (dite q p p') P a P' := by
  rw [dif_pos hq]; exact h

theorem Runs.ifFalse {A : Type} {q : Prop} [Decidable q] (hq : ¬q) {p : q → Prog (TpuEff nD τ sig (Elt F) Λ₀ .tc) A}
    {p' : ¬q → Prog (TpuEff nD τ sig (Elt F) Λ₀ .tc) A} {P P' : sProp 𝕄} {a : A} (h : Runs c (p' hq) P a P') : Runs c (dite q p p') P a P' := by
  rw [dif_neg hq]; exact h

/-- The table of lengths, and the word the body reads of it. -/
abbrev tbM : Memref sig .tc .smem S3 .i32 := Memref.whole main_arg6
abbrev TbBuf : Type := Buf (Elt F) (tbM.view.loc (c : Thread nD τ))
abbrev tbWord (i : grid0.Coords) (tb : TbBuf (F := F) c) : Elt F .i32 :=
  tbM.view.readAt (Elt F) (Rect.unit (s := S3) (k0_off1 i) S1.size (k0_off1_inb i)).toLoadRect tb (Shape.Idx.first (numel1_S1.symm ▸ Nat.one_pos))

variable (arg3 : Memref sig .tc .vmem S1x64x32x512 .fp8e4m3) (harg3 : arg3.IsWhole) (arg4 : Memref sig .tc .vmem S1x64x32 .f32) (harg4 : arg4.IsWhole) (arg5 : Memref sig .tc .vmem S1x64x32x64 .bf16) (harg5 : arg5.IsWhole) (arg6 : Memref sig .tc .vmem S1x384x512 .fp8e4m3) (harg6 : arg6.IsWhole) (arg7 : Memref sig .tc .vmem S1x1x384 .f32) (harg7 : arg7.IsWhole) (arg8 : Memref sig .tc .vmem S1x384x64 .bf16) (harg8 : arg8.IsWhole) (arg9 : Memref sig .tc .vmem S1x64x32x512 .bf16) (harg9 : arg9.IsWhole) (arg10 : Memref sig .tc .vmem S1x64x32 .f32) (harg10 : arg10.IsWhole) (arg11 : Memref sig .tc .vmem S384x512 .bf16) (harg11 : arg11.IsWhole)

/-- What the body holds: the blocks it reads, the blocks it writes, and the scratch. -/
def held (I : Ins F) (o : Vec F S1x64x32x512 .bf16) (e : Vec F S1x64x32 .f32) (s : Vec F S384x512 .bf16) : sProp 𝕄 :=
  iprop(owns (c : Thread nD τ) arg3 fullShare I.q ∗ owns (c : Thread nD τ) arg4 fullShare I.qs ∗ owns (c : Thread nD τ) arg5 fullShare I.qr
    ∗ owns (c : Thread nD τ) arg6 fullShare I.c ∗ owns (c : Thread nD τ) arg7 fullShare I.cs ∗ owns (c : Thread nD τ) arg8 fullShare I.kr
    ∗ owns (c : Thread nD τ) arg9 fullShare o ∗ owns (c : Thread nD τ) arg10 fullShare e ∗ owns (c : Thread nD τ) arg11 fullShare s)

/-- The same by the buffers' contents. -/
def pts (f0 : Buf (Elt F) (arg3.view.loc (c : Thread nD τ))) (f1 : Buf (Elt F) (arg4.view.loc (c : Thread nD τ))) (f2 : Buf (Elt F) (arg5.view.loc (c : Thread nD τ)))
    (f3 : Buf (Elt F) (arg6.view.loc (c : Thread nD τ))) (f4 : Buf (Elt F) (arg7.view.loc (c : Thread nD τ))) (f5 : Buf (Elt F) (arg8.view.loc (c : Thread nD τ)))
    (f6 : Buf (Elt F) (arg9.view.loc (c : Thread nD τ))) (f7 : Buf (Elt F) (arg10.view.loc (c : Thread nD τ))) (f8 : Buf (Elt F) (arg11.view.loc (c : Thread nD τ))) : sProp 𝕄 :=
  iprop((arg3.view.loc (c : Thread nD τ) ↦[arg3.view.set]{fullShare} f0) ∗ (arg4.view.loc (c : Thread nD τ) ↦[arg4.view.set]{fullShare} f1)
    ∗ (arg5.view.loc (c : Thread nD τ) ↦[arg5.view.set]{fullShare} f2) ∗ (arg6.view.loc (c : Thread nD τ) ↦[arg6.view.set]{fullShare} f3)
    ∗ (arg7.view.loc (c : Thread nD τ) ↦[arg7.view.set]{fullShare} f4) ∗ (arg8.view.loc (c : Thread nD τ) ↦[arg8.view.set]{fullShare} f5)
    ∗ (arg9.view.loc (c : Thread nD τ) ↦[arg9.view.set]{fullShare} f6) ∗ (arg10.view.loc (c : Thread nD τ) ↦[arg10.view.set]{fullShare} f7)
    ∗ (arg11.view.loc (c : Thread nD τ) ↦[arg11.view.set]{fullShare} f8))

include harg3 harg4 harg5 harg6 harg7 harg8 harg9 harg10 harg11 in
theorem held_open (I : Ins F) (o : Vec F S1x64x32x512 .bf16) (e : Vec F S1x64x32 .f32) (s : Vec F S384x512 .bf16) :
    held c arg3 arg4 arg5 arg6 arg7 arg8 arg9 arg10 arg11 I o e s
      ⊢ pts c arg3 arg4 arg5 arg6 arg7 arg8 arg9 arg10 arg11 (harg3.unread I.q) (harg4.unread I.qs) (harg5.unread I.qr) (harg6.unread I.c) (harg7.unread I.cs)
          (harg8.unread I.kr) (harg9.unread o) (harg10.unread e) (harg11.unread s) := by
  unfold held pts owns
  iintro ⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩⟩
  obtain rfl := harg3.eq_unread h0; obtain rfl := harg4.eq_unread h1; obtain rfl := harg5.eq_unread h2; obtain rfl := harg6.eq_unread h3
  obtain rfl := harg7.eq_unread h4; obtain rfl := harg8.eq_unread h5; obtain rfl := harg9.eq_unread h6; obtain rfl := harg10.eq_unread h7
  obtain rfl := harg11.eq_unread h8
  iframe

include harg3 harg4 harg5 harg6 harg7 harg8 in
theorem held_close (I : Ins F) {o : Vec F S1x64x32x512 .bf16} {e : Vec F S1x64x32 .f32} {s : Vec F S384x512 .bf16}
    {f6 : Buf (Elt F) (arg9.view.loc (c : Thread nD τ))} {f7 : Buf (Elt F) (arg10.view.loc (c : Thread nD τ))} {f8 : Buf (Elt F) (arg11.view.loc (c : Thread nD τ))}
    (h6 : arg9.view.read (Elt F) f6 = o) (h7 : arg10.view.read (Elt F) f7 = e) (h8 : arg11.view.read (Elt F) f8 = s) :
    pts c arg3 arg4 arg5 arg6 arg7 arg8 arg9 arg10 arg11 (harg3.unread I.q) (harg4.unread I.qs) (harg5.unread I.qr) (harg6.unread I.c) (harg7.unread I.cs)
        (harg8.unread I.kr) f6 f7 f8
      ⊢ held c arg3 arg4 arg5 arg6 arg7 arg8 arg9 arg10 arg11 I o e s := by
  unfold held pts owns
  iintro ⟨H0, H1, H2, H3, H4, H5, H6, H7, H8⟩
  isplitl [H0]; · iexists _; isplitr; · ipureintro; exact harg3.read_unread _
                  iexact H0
  isplitl [H1]; · iexists _; isplitr; · ipureintro; exact harg4.read_unread _
                  iexact H1
  isplitl [H2]; · iexists _; isplitr; · ipureintro; exact harg5.read_unread _
                  iexact H2
  isplitl [H3]; · iexists _; isplitr; · ipureintro; exact harg6.read_unread _
                  iexact H3
  isplitl [H4]; · iexists _; isplitr; · ipureintro; exact harg7.read_unread _
                  iexact H4
  isplitl [H5]; · iexists _; isplitr; · ipureintro; exact harg8.read_unread _
                  iexact H5
  isplitl [H6]; · iexists _; isplitr; · ipureintro; exact h6
                  iexact H6
  isplitl [H7]; · iexists _; isplitr; · ipureintro; exact h7
                  iexact H7
  iexists _; isplitr; · ipureintro; exact h8
  iexact H8

set_option maxHeartbeats 1000000 in
include harg3 harg4 harg5 harg6 harg7 harg8 harg10 harg11 in
/-- Eight tokens: their block goes into the output's. -/
theorem chunk_runs (nk : ℕ) (h0 : 0 < nk) (h1 : nk ≤ 384) (row : RowFn F nk) (x : Ctx F) (n : BitVec 32)
    (ck : FVec F (Mat nk 512) .fp8e4m3) (kr : FVec F (Mat nk 64) .bf16) (j : ℕ) (hj : j < 8) (acc : FVec F (Mat 32 64) .f32)
    (I : Ins F) (o : Vec F S1x64x32x512 .bf16) (e : Vec F S1x64x32 .f32) (s : Vec F S384x512 .bf16) :
    Runs c (chunk arg3 arg5 arg9 harg9 arg11 nk h0 h1 row x n ck kr j hj acc)
      (held c arg3 arg4 arg5 arg6 arg7 arg8 arg9 arg10 arg11 I o e s)
      (chunkLse cL cN row x ck kr I.q I.qr j hj acc)
      (held c arg3 arg4 arg5 arg6 arg7 arg8 arg9 arg10 arg11 I
        (VecWindow.put o ![0, 8 * j, 0, 0] ![1, 8, 32, 512] (chunkOut row x n ck kr (cbOf nk h1 s) I.q I.qr j hj)) e s) := fun E K => by
  unfold chunk chunkLse chunkRow
  iintro ⟨H, Hk⟩
  ihave H := (held_open c arg3 harg3 arg4 harg4 arg5 harg5 arg6 harg6 arg7 harg7 arg8 harg8 arg9 harg9 arg10 harg10 arg11 harg11 I o e s) $$ H
  unfold pts
  icases H with ⟨H0, H1, H2, H3, H4, H5, H6, H7, H8⟩
  have eq : arg3.view.readAt (Elt F) (Rect.unit (s := S1x64x32x512) ![0, 8 * j, 0, 0] S1x8x32x512.size (inb_chunk 512 j hj)).toLoadRect (harg3.unread I.q)
      = chunkQ I.q j hj := by
    rw [View.readAt_unit _ _ _ rfl (inb_chunk 512 j hj), harg3.read_unread]; rfl
  have eqr : arg5.view.readAt (Elt F) (Rect.unit (s := S1x64x32x64) ![0, 8 * j, 0, 0] S1x8x32x64.size (inb_chunk 64 j hj)).toLoadRect (harg5.unread I.qr)
      = chunkQ I.qr j hj := by
    rw [View.readAt_unit _ _ _ rfl (inb_chunk 64 j hj), harg5.read_unread]; rfl
  have ecb : arg11.view.readAt (Elt F) (Rect.unit (s := S384x512) ![0, 0] (Mat nk 512).size (inb_cb nk h1)).toLoadRect (harg11.unread s)
      = cbOf nk h1 s := by
    rw [View.readAt_unit _ _ _ rfl (inb_cb nk h1), harg11.read_unread]; rfl
  have h6 : arg9.view.read (Elt F) (arg9.view.writes (Elt F) (harg9.unread o) [⟨Rect.unit (s := S1x64x32x512) ![0, 8 * j, 0, 0] S1x8x32x512.size (inb_chunk 512 j hj),
        outChunk n x.t0 j (rows8 fun t ht => (row x (latScores (chunkQ I.q j hj) ck) (ropeScores (chunkQ I.qr j hj) kr) j t hj ht).w) (cbOf nk h1 s)⟩])
      = VecWindow.put o ![0, 8 * j, 0, 0] ![1, 8, 32, 512] (chunkOut row x n ck kr (cbOf nk h1 s) I.q I.qr j hj) := by
    rw [View.read_writes_cons_put _ _ _ _ _ rfl, View.writes_nil, harg9.read_unread]; rfl
  sl_exec
  sl_step
  iapply Hk
  iapply (held_close c arg3 harg3 arg4 harg4 arg5 harg5 arg6 harg6 arg7 harg7 arg8 harg8 arg9 arg10 arg11 I h6 (harg10.read_unread e) (harg11.read_unread s))
  unfold pts
  iframe

include harg3 harg4 harg5 harg6 harg7 harg8 harg9 harg10 harg11 in
/-- The log-sum-exp block stored. -/
theorem lse_runs (n t0 : BitVec 32) (acc : FVec F (Mat 32 64) .f32) (I : Ins F) (o : Vec F S1x64x32x512 .bf16) (e : Vec F S1x64x32 .f32) (s : Vec F S384x512 .bf16) :
    Runs c (do
        let _e : Vec F S1x64x32 .f32 ← Prog.lift (.load arg10 (Rect.unit (s := S1x64x32) ![0, 0, 0] S1x64x32.size inb_S1x64x32_S1x64x32_0_0_0).toLoadRect (View.loadsAt_vmem h_S1x64x32))
        Prog.lift (.store arg10 (Rect.unit (s := S1x64x32) ![0, 0, 0] S1x64x32.size inb_S1x64x32_S1x64x32_0_0_0) (outLse n t0 acc) Finset.univ (View.stores_vmem_bits_univ h_S1x64x32 rfl) (.inl rfl)))
      (held c arg3 arg4 arg5 arg6 arg7 arg8 arg9 arg10 arg11 I o e s) ⟨⟩ (held c arg3 arg4 arg5 arg6 arg7 arg8 arg9 arg10 arg11 I o (outLse n t0 acc) s) := fun E K => by
  iintro ⟨H, Hk⟩
  ihave H := (held_open c arg3 harg3 arg4 harg4 arg5 harg5 arg6 harg6 arg7 harg7 arg8 harg8 arg9 harg9 arg10 harg10 arg11 harg11 I o e s) $$ H
  unfold pts
  icases H with ⟨H0, H1, H2, H3, H4, H5, H6, H7, H8⟩
  sl_exec
  sl_step
  iapply Hk
  iapply (held_close c arg3 harg3 arg4 harg4 arg5 harg5 arg6 harg6 arg7 harg7 arg8 harg8 arg9 arg10 arg11 I (harg9.read_unread o) (View.read_writes_full _ _ _ _ _) (harg11.read_unread s))
  unfold pts
  iframe

include harg3 harg4 harg5 harg6 harg7 harg8 harg9 harg10 harg11 in
/-- A window past the sequence's end. -/
theorem pad_runs (I : Ins F) (o : Vec F S1x64x32x512 .bf16) (e : Vec F S1x64x32 .f32) (s : Vec F S384x512 .bf16) :
    Runs c (pad arg9 harg9 arg10) (held c arg3 arg4 arg5 arg6 arg7 arg8 arg9 arg10 arg11 I o e s) ⟨⟩
      (held c arg3 arg4 arg5 arg6 arg7 arg8 arg9 arg10 arg11 I (broadcast S1x64x32x512 (Scalar.ofBits .bf16 0x0000#16 : F .bf16)) (broadcast S1x64x32 (Scalar.ofBits .f32 0x00000000#32 : F .f32)) s) := fun E K => by
  unfold pad
  iintro ⟨H, Hk⟩
  ihave H := (held_open c arg3 harg3 arg4 harg4 arg5 harg5 arg6 harg6 arg7 harg7 arg8 harg8 arg9 harg9 arg10 harg10 arg11 harg11 I o e s) $$ H
  unfold pts
  icases H with ⟨H0, H1, H2, H3, H4, H5, H6, H7, H8⟩
  sl_exec
  sl_step
  iapply Hk
  iapply (held_close c arg3 harg3 arg4 harg4 arg5 harg5 arg6 harg6 arg7 harg7 arg8 harg8 arg9 arg10 arg11 I (View.read_writes_full _ _ _ _ _) (View.read_writes_full _ _ _ _ _) (harg11.read_unread s))
  unfold pts
  iframe

include harg3 harg4 harg5 harg6 harg7 harg8 harg9 harg10 harg11 in
/-- The codes of the batch widened into the scratch. -/
theorem fill_runs (I : Ins F) (o : Vec F S1x64x32x512 .bf16) (e : Vec F S1x64x32 .f32) (s : Vec F S384x512 .bf16) :
    Runs c (fill arg6 arg11 harg11) (held c arg3 arg4 arg5 arg6 arg7 arg8 arg9 arg10 arg11 I o e s) ⟨⟩ (held c arg3 arg4 arg5 arg6 arg7 arg8 arg9 arg10 arg11 I o e (widen I.c)) := fun E K => by
  unfold fill
  iintro ⟨H, Hk⟩
  ihave H := (held_open c arg3 harg3 arg4 harg4 arg5 harg5 arg6 harg6 arg7 harg7 arg8 harg8 arg9 harg9 arg10 harg10 arg11 harg11 I o e s) $$ H
  unfold pts
  icases H with ⟨H0, H1, H2, H3, H4, H5, H6, H7, H8⟩
  have ec : arg6.view.readAt (Elt F) (Rect.unit (s := S1x384x512) ![0, 0, 0] S1x384x512.size inb_S1x384x512_S1x384x512_0_0_0).toLoadRect (harg6.unread I.c)
      = I.c := by
    rw [View.readAt_full, harg6.read_unread]
  sl_exec
  sl_step
  iapply Hk
  iapply (held_close c arg3 harg3 arg4 harg4 arg5 harg5 arg6 harg6 arg7 harg7 arg8 harg8 arg9 arg10 arg11 I (harg9.read_unread o) (harg10.read_unread e) (View.read_writes_full _ _ _ _ _))
  unfold pts
  iframe

/-- A load of a block that the body holds reads the window of its values. -/
theorem load_runs {sh : Shape} {el : EltTy} (M : Memref sig .tc .vmem sh el) (x : Vec F sh el) {P : sProp 𝕄}
    (hP : P ⊢ iprop(owns (c : Thread nD τ) M fullShare x ∗ (owns (c : Thread nD τ) M fullShare x -∗ P)))
    {off size : Fin sh.rank → ℕ} (inb : ∀ a, off a + size a ≤ sh.size a) (hl : M.view.LoadsAt (Rect.unit off size inb).toLoadRect) :
    Runs c (Prog.lift (.load M (Rect.unit off size inb).toLoadRect hl)) P (VecWindow.window x off size inb) P := fun E K => by
  iintro ⟨H, Hk⟩
  ihave H := hP $$ H
  unfold owns
  icases H with ⟨⟨%f, %hf, Hf⟩, Hb⟩
  have ef : M.view.readAt (Elt F) (Rect.unit off size inb).toLoadRect f = VecWindow.window x off size inb := by
    rw [View.readAt_unit _ _ inb rfl inb, hf]
  sl_exec
  sl_step
  iapply Hk
  iapply Hb
  iexists f; isplitr; · ipureintro; exact hf
  iexact Hf

include harg3 harg4 harg5 harg6 harg7 harg8 harg9 harg10 harg11 in
/-- A window attended. -/
theorem attend_runs (nk : ℕ) (h0 : 0 < nk) (h1 : nk ≤ 384) (row : RowFn F nk) (n t0 : BitVec 32)
    (I : Ins F) (o : Vec F S1x64x32x512 .bf16) (e : Vec F S1x64x32 .f32) (s : Vec F S384x512 .bf16) :
    Runs c (attend arg3 arg4 arg5 arg6 arg7 arg8 arg9 harg9 arg10 arg11 nk h0 h1 row n t0)
      (held c arg3 arg4 arg5 arg6 arg7 arg8 arg9 arg10 arg11 I o e s) ⟨⟩ (held c arg3 arg4 arg5 arg6 arg7 arg8 arg9 arg10 arg11 I (attO cC nk h1 row n t0 I s) (attE cC cL cN nk h1 row n t0 I) s) := by
  have chunks : ∀ j hj acc o', Runs c (chunk arg3 arg5 arg9 harg9 arg11 nk h0 h1 row (ctxOf cC I t0) n (keysOf nk h1 I.c) (keysOf nk h1 I.kr) j hj acc)
      (held c arg3 arg4 arg5 arg6 arg7 arg8 arg9 arg10 arg11 I o' e s)
      (chunkLse cL cN row (ctxOf cC I t0) (keysOf nk h1 I.c) (keysOf nk h1 I.kr) I.q I.qr j hj acc)
      (held c arg3 arg4 arg5 arg6 arg7 arg8 arg9 arg10 arg11 I (VecWindow.put o' ![0, 8 * j, 0, 0] ![1, 8, 32, 512]
        (chunkOut row (ctxOf cC I t0) n (keysOf nk h1 I.c) (keysOf nk h1 I.kr) (cbOf nk h1 s) I.q I.qr j hj)) e s) := fun j hj acc o' =>
    chunk_runs c arg3 harg3 arg4 harg4 arg5 harg5 arg6 harg6 arg7 harg7 arg8 harg8 arg9 harg9 arg10 harg10 arg11 harg11 nk h0 h1 row _ n _ _ j hj acc I o' e s
  have hO := outs_all (fun j hj => chunkOut row (ctxOf cC I t0) n (keysOf nk h1 I.c) (keysOf nk h1 I.kr) (cbOf nk h1 s) I.q I.qr j hj) o
  unfold attend
  refine Runs.seq c (load_runs c arg4 I.qs ?_ _ _) ?_
  · unfold held; iintro ⟨H0, H1, H2, H3, H4, H5, H6, H7, H8⟩; isplitl [H1]; · iexact H1
    iintro H1; iframe
  rw [show VecWindow.window I.qs ![0, 0, 0] S1x64x32.size inb_S1x64x32_S1x64x32_0_0_0 = I.qs from window_full _ _]
  refine Runs.seq c (load_runs c arg7 I.cs ?_ _ _) ?_
  · unfold held; iintro ⟨H0, H1, H2, H3, H4, H5, H6, H7, H8⟩; isplitl [H4]; · iexact H4
    iintro H4; iframe
  rw [show VecWindow.window I.cs ![0, 0, 0] S1x1x384.size inb_S1x1x384_S1x1x384_0_0_0 = I.cs from window_full _ _]
  refine Runs.seq c (load_runs c arg6 I.c ?_ _ _) ?_
  · unfold held; iintro ⟨H0, H1, H2, H3, H4, H5, H6, H7, H8⟩; isplitl [H3]; · iexact H3
    iintro H3; iframe
  refine Runs.seq c (load_runs c arg8 I.kr ?_ _ _) ?_
  · unfold held; iintro ⟨H0, H1, H2, H3, H4, H5, H6, H7, H8⟩; isplitl [H5]; · iexact H5
    iintro H5; iframe
  refine Runs.seq c (chunks 0 (by decide) _ _) (Runs.seq c (chunks 1 (by decide) _ _) (Runs.seq c (chunks 2 (by decide) _ _)
    (Runs.seq c (chunks 3 (by decide) _ _) (Runs.seq c (chunks 4 (by decide) _ _) (Runs.seq c (chunks 5 (by decide) _ _)
    (Runs.seq c (chunks 6 (by decide) _ _) (Runs.seq c (chunks 7 (by decide) _ _) ?_)))))))
  unfold attO
  rw [← hO]
  exact lse_runs c arg3 harg3 arg4 harg4 arg5 harg5 arg6 harg6 arg7 harg7 arg8 harg8 arg9 harg9 arg10 harg10 arg11 harg11 n t0 _ I _ e s

/-! ## Which block of keys a window attends over -/

/-- The window is active at length `n`. -/
abbrev act (i : grid0.Coords) (n : BitVec 32) : BitVec 1 := Scalar.cmpi .slt (startPos (i 1).val) n

/-- A bit and a decided bit, as the kernel's conditions combine them. -/
theorem bit_and (b v : BitVec 1) :
    Scalar.cmpi .ne (Scalar.extui (Scalar.andi b v) : BitVec 32) 0#32 = 1#1 ↔ b = 1#1 ∧ v = 1#1 := by
  revert b v; decide

theorem bit_not (b : BitVec 1) : Scalar.cmpi .ne (Scalar.extui (Scalar.xori b 1#1) : BitVec 32) 0#32 = 1#1 ↔ ¬ b = 1#1 := by
  revert b; decide

theorem cond2_iff (i : grid0.Coords) (n : BitVec 32) : k0_cond2 i n = 1#1 ↔ act i n = 1#1 ∧ (i 1).val / 2 = 0 := by
  refine (bit_and _ _).trans (and_congr_right fun _ => ?_)
  have h : (i 1).val < 6 := (i 1).isLt
  revert h; generalize (i 1).val = k; intro h
  match k, h with
  | 0, _ | 1, _ | 2, _ | 3, _ | 4, _ | 5, _ => decide
  | k + 6, h => omega

theorem cond3_iff (i : grid0.Coords) (n : BitVec 32) : k0_cond3 i n = 1#1 ↔ act i n = 1#1 ∧ (i 1).val / 2 = 1 := by
  refine (bit_and _ _).trans (and_congr_right fun _ => ?_)
  have h : (i 1).val < 6 := (i 1).isLt
  revert h; generalize (i 1).val = k; intro h
  match k, h with
  | 0, _ | 1, _ | 2, _ | 3, _ | 4, _ | 5, _ => decide
  | k + 6, h => omega

theorem cond4_iff (i : grid0.Coords) (n : BitVec 32) : k0_cond4 i n = 1#1 ↔ act i n = 1#1 ∧ (i 1).val / 2 = 2 := by
  refine (bit_and _ _).trans (and_congr_right fun _ => ?_)
  have h : (i 1).val < 6 := (i 1).isLt
  revert h; generalize (i 1).val = k; intro h
  match k, h with
  | 0, _ | 1, _ | 2, _ | 3, _ | 4, _ | 5, _ => decide
  | k + 6, h => omega

theorem cond5_iff (i : grid0.Coords) (n : BitVec 32) : k0_cond5 i n = 1#1 ↔ ¬ act i n = 1#1 := bit_not _

theorem isFirst_iff (i : grid0.Coords) : isFirst i = 1#1 ↔ (i 1).val = 0 := by
  have h : (i 1).val < 6 := (i 1).isLt
  unfold isFirst
  revert h; generalize (i 1).val = k; intro h
  match k, h with
  | 0, _ | 1, _ | 2, _ | 3, _ | 4, _ | 5, _ => decide
  | k + 6, h => omega

/-! ## The body -/

/-- The scratch after the point: the batch's codes widened at its first window, as it was at the others. -/
abbrev stepS (i1 : ℕ) (I : Ins F) (s : Vec F S384x512 .bf16) : Vec F S384x512 .bf16 := if i1 = 0 then widen I.c else s

/-- What the body holds, with the table. -/
def heldT (tb : TbBuf (F := F) c) (I : Ins F) (o : Vec F S1x64x32x512 .bf16) (e : Vec F S1x64x32 .f32) (s : Vec F S384x512 .bf16) : sProp 𝕄 :=
  iprop(held c arg3 arg4 arg5 arg6 arg7 arg8 arg9 arg10 arg11 I o e s ∗ (tbM.view.loc (c : Thread nD τ) ↦{fullShare.right} tb))

/-- A piece that leaves the table alone. -/
theorem Runs.table {A : Type} {p : Prog (TpuEff nD τ sig (Elt F) Λ₀ .tc) A} {P P' T : sProp 𝕄} {a : A} (h : Runs c p P a P') :
    Runs c p iprop(P ∗ T) a iprop(P' ∗ T) := fun E K => by
  iintro ⟨⟨H, HT⟩, Hk⟩
  iapply (h E K)
  isplitl [H]; · iexact H
  iintro H
  iapply Hk
  iframe

/-- The length word. -/
theorem word_runs (i : grid0.Coords) (tb : TbBuf (F := F) c) (P : sProp 𝕄) :
    Runs c (smemLoad tbM (Rect.unit (s := S3) (k0_off1 i) S1.size (k0_off1_inb i)) numel1_S1 rfl) iprop(P ∗ (tbM.view.loc (c : Thread nD τ) ↦{fullShare.right} tb))
      (tbWord c i tb) iprop(P ∗ (tbM.view.loc (c : Thread nD τ) ↦{fullShare.right} tb)) := fun E K => by
  iintro ⟨⟨HP, HT⟩, Hk⟩
  sl_exec
  sl_step
  iapply Hk
  iframe

/-- A conditional piece that runs, and one that does not, with the rest of the program `k` behind it. -/
theorem Runs.stageT {B : Type} {q : Prop} [Decidable q] (hq : q) {p : Prog (TpuEff nD τ sig (Elt F) Λ₀ .tc) PUnit} {k : Prog (TpuEff nD τ sig (Elt F) Λ₀ .tc) B}
    {P P' P'' : sProp 𝕄} {b : B} (h : Runs c p P ⟨⟩ P') (hk : Runs c k P' b P'') :
    Runs c (if _h : q then (do p; k) else k) P b P'' := by
  rw [dif_pos hq]; exact Runs.seq c h hk

theorem Runs.stageF {B : Type} {q : Prop} [Decidable q] (hq : ¬q) {p : Prog (TpuEff nD τ sig (Elt F) Λ₀ .tc) PUnit} {k : Prog (TpuEff nD τ sig (Elt F) Λ₀ .tc) B}
    {P P'' : sProp 𝕄} {b : B} (hk : Runs c k P b P'') :
    Runs c (if _h : q then (do p; k) else k) P b P'' := by
  rw [dif_neg hq]; exact hk

include harg3 harg4 harg5 harg6 harg7 harg8 harg9 harg10 harg11 in
/-- The pieces, with the table beside them. -/
theorem attend_runsT (tb : TbBuf (F := F) c) (nk : ℕ) (h0 : 0 < nk) (h1 : nk ≤ 384) (row : RowFn F nk) (n t0 : BitVec 32)
    (I : Ins F) (o : Vec F S1x64x32x512 .bf16) (e : Vec F S1x64x32 .f32) (s : Vec F S384x512 .bf16) :
    Runs c (attend arg3 arg4 arg5 arg6 arg7 arg8 arg9 harg9 arg10 arg11 nk h0 h1 row n t0) (heldT c arg3 arg4 arg5 arg6 arg7 arg8 arg9 arg10 arg11 tb I o e s) ⟨⟩
      (heldT c arg3 arg4 arg5 arg6 arg7 arg8 arg9 arg10 arg11 tb I (attO cC nk h1 row n t0 I s) (attE cC cL cN nk h1 row n t0 I) s) :=
  (attend_runs c arg3 harg3 arg4 harg4 arg5 harg5 arg6 harg6 arg7 harg7 arg8 harg8 arg9 harg9 arg10 harg10 arg11 harg11 nk h0 h1 row n t0 I o e s).table c

include harg3 harg4 harg5 harg6 harg7 harg8 harg9 harg10 harg11 in
theorem pad_runsT (tb : TbBuf (F := F) c) (I : Ins F) (o : Vec F S1x64x32x512 .bf16) (e : Vec F S1x64x32 .f32) (s : Vec F S384x512 .bf16) :
    Runs c (pad arg9 harg9 arg10) (heldT c arg3 arg4 arg5 arg6 arg7 arg8 arg9 arg10 arg11 tb I o e s) ⟨⟩
      (heldT c arg3 arg4 arg5 arg6 arg7 arg8 arg9 arg10 arg11 tb I (broadcast S1x64x32x512 (Scalar.ofBits .bf16 0x0000#16 : F .bf16)) (broadcast S1x64x32 (Scalar.ofBits .f32 0x00000000#32 : F .f32)) s) :=
  (pad_runs c arg3 harg3 arg4 harg4 arg5 harg5 arg6 harg6 arg7 harg7 arg8 harg8 arg9 harg9 arg10 harg10 arg11 harg11 I o e s).table c

include harg3 harg4 harg5 harg6 harg7 harg8 harg9 harg10 harg11 in
theorem fill_runsT (tb : TbBuf (F := F) c) (i : grid0.Coords) (I : Ins F) (o : Vec F S1x64x32x512 .bf16) (e : Vec F S1x64x32 .f32) (s : Vec F S384x512 .bf16)
    {B : Type} {k : Prog (TpuEff nD τ sig (Elt F) Λ₀ .tc) B} {b : B} {P : sProp 𝕄} (hk : Runs c k (heldT c arg3 arg4 arg5 arg6 arg7 arg8 arg9 arg10 arg11 tb I o e (stepS (i 1).val I s)) b P) :
    Runs c (if _h1 : isFirst i = 1#1 then (do fill arg6 arg11 harg11; k) else k) (heldT c arg3 arg4 arg5 arg6 arg7 arg8 arg9 arg10 arg11 tb I o e s) b P := by
  by_cases h : (i 1).val = 0
  · rw [show stepS (i 1).val I s = widen I.c from if_pos h] at hk
    exact Runs.stageT c ((isFirst_iff i).mpr h) ((fill_runs c arg3 harg3 arg4 harg4 arg5 harg5 arg6 harg6 arg7 harg7 arg8 harg8 arg9 harg9 arg10 harg10 arg11 harg11 I o e s).table c) hk
  · rw [show stepS (i 1).val I s = s from if_neg h] at hk
    exact Runs.stageF c (fun h' => h ((isFirst_iff i).mp h')) hk

/-- The blocks after the body's first part: written already if the window is an active one of the first two. -/
abbrev headO (i : grid0.Coords) (n : BitVec 32) (I : Ins F) (o : Vec F S1x64x32x512 .bf16) (s : Vec F S384x512 .bf16) : Vec F S1x64x32x512 .bf16 :=
  if k0_cond2 i n = 1#1 then attO cC 128 (by decide) row1 n (startPos (i 1).val) I s else o
abbrev headE (i : grid0.Coords) (n : BitVec 32) (I : Ins F) (e : Vec F S1x64x32 .f32) : Vec F S1x64x32 .f32 :=
  if k0_cond2 i n = 1#1 then attE cC cL cN 128 (by decide) row1 n (startPos (i 1).val) I else e

/-- What the first part hands on. -/
abbrev headVals (i : grid0.Coords) (n : Elt F .i32) : HeadVals F :=
  ⟨n, startPos (i 1).val, Scalar.cmpi .slt (startPos (i 1).val) n, 128#32, Scalar.divsi (startPos (i 1).val) 128#32,
    Scalar.subi (Scalar.extui (Scalar.cmpi .sgt (startPos (i 1).val) 0#32)) (Scalar.extui (Scalar.cmpi .slt (startPos (i 1).val) 0#32)),
    Scalar.subi (Scalar.extui (Scalar.cmpi .sgt 128#32 0#32)) (Scalar.extui (Scalar.cmpi .slt 128#32 0#32))⟩

include harg3 harg4 harg5 harg6 harg7 harg8 harg9 harg10 harg11 in
theorem head_runs (i : grid0.Coords) (tb : TbBuf (F := F) c) (I : Ins F) (o : Vec F S1x64x32x512 .bf16) (e : Vec F S1x64x32 .f32) (s : Vec F S384x512 .bf16)
    (n : Elt F .i32) (hn : tbWord c i tb = n) :
    Runs c (head (F := F) tbM arg3 arg4 arg5 arg6 arg7 arg8 arg9 harg9 arg10 arg11 harg11 i)
      (heldT c arg3 arg4 arg5 arg6 arg7 arg8 arg9 arg10 arg11 tb I o e s) (headVals (F := F) i n)
      (heldT c arg3 arg4 arg5 arg6 arg7 arg8 arg9 arg10 arg11 tb I (headO i n I o (stepS (i 1).val I s)) (headE i n I e) (stepS (i 1).val I s)) := by
  unfold head
  subst hn
  refine Runs.seq c (word_runs c i tb _) (fill_runsT c arg3 harg3 arg4 harg4 arg5 harg5 arg6 harg6 arg7 harg7 arg8 harg8 arg9 harg9 arg10 harg10 arg11 harg11 tb i I o e s ?_)
  by_cases h2 : k0_cond2 i (tbWord c i tb) = 1#1
  · rw [show headO i (tbWord c i tb) I o (stepS (i 1).val I s) = _ from if_pos h2, show headE i (tbWord c i tb) I e = _ from if_pos h2]
    exact Runs.stageT c h2 (attend_runsT c arg3 harg3 arg4 harg4 arg5 harg5 arg6 harg6 arg7 harg7 arg8 harg8 arg9 harg9 arg10 harg10 arg11 harg11 tb 128 _ _ row1 _ _ I o e _) (Runs.ret c _ _)
  · rw [show headO i (tbWord c i tb) I o (stepS (i 1).val I s) = _ from if_neg h2, show headE i (tbWord c i tb) I e = _ from if_neg h2]
    exact Runs.stageF c h2 (Runs.ret c _ _)

include harg3 harg4 harg5 harg6 harg7 harg8 harg9 harg10 harg11 in
/-- THE BODY at a grid point: from any contents of the output blocks it leaves `stepO` and `stepE` of what it read, and
    the scratch `stepS`. -/
theorem body_runs (i : grid0.Coords) (tb : TbBuf (F := F) c) (I : Ins F) (o : Vec F S1x64x32x512 .bf16) (e : Vec F S1x64x32 .f32) (s : Vec F S384x512 .bf16) :
    Runs c (cc0_mla_prefill (F := F) i tbM (Memref.isWhole_whole _) arg3 harg3 arg4 harg4 arg5 harg5 arg6 harg6 arg7 harg7 arg8 harg8 arg9 harg9 arg10 harg10 arg11 harg11)
      (heldT c arg3 arg4 arg5 arg6 arg7 arg8 arg9 arg10 arg11 tb I o e s) ⟨⟩
      (heldT c arg3 arg4 arg5 arg6 arg7 arg8 arg9 arg10 arg11 tb I (stepO cC (i 1).val (tbWord c i tb) I (stepS (i 1).val I s)) (stepE cC cL cN (i 1).val (tbWord c i tb) I) (stepS (i 1).val I s)) := by
  rw [body_eq]
  unfold short
  generalize hn : tbWord c i tb = n
  refine Runs.seq c (head_runs c arg3 harg3 arg4 harg4 arg5 harg5 arg6 harg6 arg7 harg7 arg8 harg8 arg9 harg9 arg10 harg10 arg11 harg11 i tb I o e s n hn) ?_
  dsimp only
  have h6 : (i 1).val < 6 := (i 1).isLt
  by_cases ha : act i n = 1#1
  · have n5 : ¬ k0_cond5 i n = 1#1 := fun h => (cond5_iff i n).mp h ha
    by_cases h0 : (i 1).val / 2 = 0
    · have h2 := (cond2_iff i n).mpr ⟨ha, h0⟩
      rw [show stepO cC (i 1).val n I (stepS (i 1).val I s) = attO cC 128 (by decide) row1 n (startPos (i 1).val) I (stepS (i 1).val I s) from (if_pos ha).trans (if_pos h0),
        show stepE cC cL cN (i 1).val n I = attE cC cL cN 128 (by decide) row1 n (startPos (i 1).val) I from (if_pos ha).trans (if_pos h0),
        show headO i n I o (stepS (i 1).val I s) = _ from if_pos h2, show headE i n I e = _ from if_pos h2]
      exact Runs.stageF c (fun h => by have := ((cond3_iff i n).mp h).2; omega)
        (Runs.stageF c (fun h => by have := ((cond4_iff i n).mp h).2; omega)
          (Runs.stageF c n5 (Runs.ret c _ _)))
    · by_cases h1 : (i 1).val / 2 = 1
      · rw [show stepO cC (i 1).val n I (stepS (i 1).val I s) = attO cC 256 (by decide) row2 n (startPos (i 1).val) I (stepS (i 1).val I s) from
            ((if_pos ha).trans (if_neg h0)).trans (if_pos h1),
          show stepE cC cL cN (i 1).val n I = attE cC cL cN 256 (by decide) row2 n (startPos (i 1).val) I from ((if_pos ha).trans (if_neg h0)).trans (if_pos h1)]
        exact Runs.stageT c ((cond3_iff i n).mpr ⟨ha, h1⟩) (attend_runsT c arg3 harg3 arg4 harg4 arg5 harg5 arg6 harg6 arg7 harg7 arg8 harg8 arg9 harg9 arg10 harg10 arg11 harg11 tb 256 _ _ row2 _ _ I _ _ _)
          (Runs.stageF c (fun h => by have := ((cond4_iff i n).mp h).2; omega)
            (Runs.stageF c n5 (Runs.ret c _ _)))
      · have h2 : (i 1).val / 2 = 2 := by omega
        rw [show stepO cC (i 1).val n I (stepS (i 1).val I s) = attO cC 384 (by decide) row3 n (startPos (i 1).val) I (stepS (i 1).val I s) from
            ((if_pos ha).trans (if_neg h0)).trans (if_neg h1),
          show stepE cC cL cN (i 1).val n I = attE cC cL cN 384 (by decide) row3 n (startPos (i 1).val) I from ((if_pos ha).trans (if_neg h0)).trans (if_neg h1)]
        exact Runs.stageF c (fun h => h1 ((cond3_iff i n).mp h).2)
          (Runs.stageT c ((cond4_iff i n).mpr ⟨ha, h2⟩) (attend_runsT c arg3 harg3 arg4 harg4 arg5 harg5 arg6 harg6 arg7 harg7 arg8 harg8 arg9 harg9 arg10 harg10 arg11 harg11 tb 384 _ _ row3 _ _ I _ _ _)
            (Runs.stageF c n5 (Runs.ret c _ _)))
  · rw [show stepO cC (i 1).val n I (stepS (i 1).val I s) = _ from if_neg ha, show stepE cC cL cN (i 1).val n I = _ from if_neg ha]
    exact Runs.stageF c (fun h => ha ((cond3_iff i n).mp h).1)
      (Runs.stageF c (fun h => ha ((cond4_iff i n).mp h).1)
        (Runs.stageT c ((cond5_iff i n).mpr ha) (pad_runsT c arg3 harg3 arg4 harg4 arg5 harg5 arg6 harg6 arg7 harg7 arg8 harg8 arg9 harg9 arg10 harg10 arg11 harg11 tb I _ _ _) (Runs.ret c _ _)))

end Cert.KernelIdeal.Body
end
-- ==== Proof.KernelIdeal.Frame.lean ====
/- The pipeline region of the kernel `KernelIdeal`: what its windows read, what each grid point leaves, and the frame.
   The body is the one of `Run`, whose triple serves every point. -/
module

public import proofs.«01_k».proof.Proof.Gen.KernelIdeal.Launch
public import proofs.«01_k».proof.Proof.KernelIdeal.Run
public import Idealize.ShloMosaic.Lib.Pipeline.Kit
public import Idealize.ShloMosaic.Lib.Claim

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Mla

variable {F : FTy → Type} [FloatOps F] [Named F]

local notation "𝕄" => MT nD τ sig Unit (Elt F) ℕ (UR sig nD τ) ℕ

/-! ## The schedule of the windows whose index maps read no table -/

/-- Window 3 is fetched at the points ≡ 0 (mod 6). -/
theorem fetch0_3 (a : (pcfg0 (F := F)).Adm) : ∀ t : Fin (cfg0 a).N, ((cfg0 a).win 3).fetch t = true ↔ t.val % 6 = 0 :=
  (fun t => Pipeline.Window.fetchOf_reads cc0_transform_3 reads0_3 hreads0_3 0 (by decide) (by decide) (Pipeline.Window.sep_of_coord cc0_transform_3 0 0 (fun _ => rfl) (by decide)) (P := 6) (by decide) t : ∀ t : Fin grid0.N, Pipeline.Window.fetchOf grid0 false cc0_transform_3 t = true ↔ t.val % 6 = 0)
/-- Window 4 is fetched at the points ≡ 0 (mod 6). -/
theorem fetch0_4 (a : (pcfg0 (F := F)).Adm) : ∀ t : Fin (cfg0 a).N, ((cfg0 a).win 4).fetch t = true ↔ t.val % 6 = 0 :=
  (fun t => Pipeline.Window.fetchOf_reads cc0_transform_4 reads0_4 hreads0_4 0 (by decide) (by decide) (Pipeline.Window.sep_of_coord cc0_transform_4 0 0 (fun _ => rfl) (by decide)) (P := 6) (by decide) t : ∀ t : Fin grid0.N, Pipeline.Window.fetchOf grid0 false cc0_transform_4 t = true ↔ t.val % 6 = 0)
/-- Window 5 is fetched at the points ≡ 0 (mod 6). -/
theorem fetch0_5 (a : (pcfg0 (F := F)).Adm) : ∀ t : Fin (cfg0 a).N, ((cfg0 a).win 5).fetch t = true ↔ t.val % 6 = 0 :=
  (fun t => Pipeline.Window.fetchOf_reads cc0_transform_5 reads0_5 hreads0_5 0 (by decide) (by decide) (Pipeline.Window.sep_of_coord cc0_transform_5 0 0 (fun _ => rfl) (by decide)) (P := 6) (by decide) t : ∀ t : Fin grid0.N, Pipeline.Window.fetchOf grid0 false cc0_transform_5 t = true ↔ t.val % 6 = 0)
/-- Window 6 is written back at every point. -/
theorem flush0_6 (a : (pcfg0 (F := F)).Adm) : ∀ t : Fin (cfg0 a).N, ((cfg0 a).win 6).flush t = true :=
  (fun t => (Pipeline.Window.flushOf_reads cc0_transform_6 reads0_6 hreads0_6 1 (by decide) (by decide) (Pipeline.Window.sep_of_coord cc0_transform_6 1 1 (fun _ => rfl) (by decide)) (P := 1) (m := 0) (by decide) rfl t).mpr (Nat.mod_one _) : ∀ t : Fin grid0.N, Pipeline.Window.flushOf grid0 true cc0_transform_6 t = true)
/-- Window 7 is written back at every point. -/
theorem flush0_7 (a : (pcfg0 (F := F)).Adm) : ∀ t : Fin (cfg0 a).N, ((cfg0 a).win 7).flush t = true :=
  (fun t => (Pipeline.Window.flushOf_reads cc0_transform_7 reads0_7 hreads0_7 1 (by decide) (by decide) (Pipeline.Window.sep_of_coord cc0_transform_7 1 1 (fun _ => rfl) (by decide)) (P := 1) (m := 0) (by decide) rfl t).mpr (Nat.mod_one _) : ∀ t : Fin grid0.N, Pipeline.Window.flushOf grid0 true cc0_transform_7 t = true)

/-- The kernel body at point `t`, on the current staging buffers. -/
abbrev bodyAt0 (a : (pcfg0 (F := F)).Adm) (t : Fin (cfg0 a).N) : Prog (TpuEff nD τ sig (Elt F) Λ₀ .tc) PUnit :=
  cc0_mla_prefill (grid0.coords t) (Memref.whole main_arg6) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (Memref.whole cc0_scratch0) (Memref.isWhole_whole _)

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer that no host operation before the region writes is found as launched. -/
theorem V_of (c : Dev nD) (b : Ref sig .tc) (h : Proc.devRef (τ := τ) .tc b ≠ Proc.devRef .tc main_v0) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.reshape_writes, Finset.mem_singleton]
    exact h))
theorem V_main_arg0 (c : Dev nD) : V m c main_arg0 = m ((c : Thread nD τ).loc main_arg0) :=
  V_of m c main_arg0 (StableHlo.devRef_ne_of_ne (by decide))
theorem V_main_arg1 (c : Dev nD) : V m c main_arg1 = m ((c : Thread nD τ).loc main_arg1) :=
  V_of m c main_arg1 (StableHlo.devRef_ne_of_ne (by decide))
theorem V_main_arg2 (c : Dev nD) : V m c main_arg2 = m ((c : Thread nD τ).loc main_arg2) :=
  V_of m c main_arg2 (StableHlo.devRef_ne_of_ne (by decide))
theorem V_main_arg3 (c : Dev nD) : V m c main_arg3 = m ((c : Thread nD τ).loc main_arg3) :=
  V_of m c main_arg3 (StableHlo.devRef_ne_of_ne (by decide))
theorem V_main_arg4 (c : Dev nD) : V m c main_arg4 = m ((c : Thread nD τ).loc main_arg4) :=
  V_of m c main_arg4 (StableHlo.devRef_ne_of_ne (by decide))
theorem V_main_arg5 (c : Dev nD) : V m c main_arg5 = m ((c : Thread nD τ).loc main_arg5) :=
  V_of m c main_arg5 (StableHlo.devRef_ne_of_ne (by decide))
theorem V_main_arg6 (c : Dev nD) : V m c main_arg6 = m ((c : Thread nD τ).loc main_arg6) :=
  V_of m c main_arg6 (StableHlo.devRef_ne_of_ne (by decide))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S3 .i32 := Memref.whole main_arg6
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`). -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`). -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`). -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`). -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`). -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`). -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The arguments end as they began, read off a frame run: a staged input by the library, an array that no window stages by
    the second clause of the run's postcondition. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).2 main_arg4 (by decide : main_arg4 ∈ Pipeline.restRefs sig spec0)).trans (V_main_arg4 m c),
      ((h c).1 5).trans (((dats 0 c).arrAt_in 5 rfl _).trans ((hA c 5).trans (V_main_arg5 m c))),
      ((h c).2 main_arg6 (by decide : main_arg6 ∈ Pipeline.restRefs sig spec0)).trans (V_main_arg6 m c)⟩) h

/-! ## No window is ever idle -/

theorem liveAt0_0 (hO : Ok m) : ∀ t : Fin (cfgM m hO).N, (cfgM m hO).idle 0 (grid0.coords t) = false :=
  (fun _ => rfl : ∀ t : Fin grid0.N, idle0 (tbl m) 0 (grid0.coords t) = false)
theorem liveAt0_1 (hO : Ok m) : ∀ t : Fin (cfgM m hO).N, (cfgM m hO).idle 1 (grid0.coords t) = false :=
  (fun _ => rfl : ∀ t : Fin grid0.N, idle0 (tbl m) 1 (grid0.coords t) = false)
theorem liveAt0_2 (hO : Ok m) : ∀ t : Fin (cfgM m hO).N, (cfgM m hO).idle 2 (grid0.coords t) = false :=
  (fun _ => rfl : ∀ t : Fin grid0.N, idle0 (tbl m) 2 (grid0.coords t) = false)
theorem liveAt0_3 (hO : Ok m) : ∀ t : Fin (cfgM m hO).N, (cfgM m hO).idle 3 (grid0.coords t) = false :=
  (fun _ => rfl : ∀ t : Fin grid0.N, idle0 (tbl m) 3 (grid0.coords t) = false)
theorem liveAt0_4 (hO : Ok m) : ∀ t : Fin (cfgM m hO).N, (cfgM m hO).idle 4 (grid0.coords t) = false :=
  (fun _ => rfl : ∀ t : Fin grid0.N, idle0 (tbl m) 4 (grid0.coords t) = false)
theorem liveAt0_5 (hO : Ok m) : ∀ t : Fin (cfgM m hO).N, (cfgM m hO).idle 5 (grid0.coords t) = false :=
  (fun _ => rfl : ∀ t : Fin grid0.N, idle0 (tbl m) 5 (grid0.coords t) = false)

/-- An output window is written at every point: one of the four conditions holds. -/
theorem never_idle (i : grid0.Coords) (n : BitVec 32) :
    (!(k0_cond2 i n == 1#1) && !(k0_cond3 i n == 1#1) && !(k0_cond4 i n == 1#1) && !(k0_cond5 i n == 1#1)) = false := by
  have h6 : (i 1).val < 6 := (i 1).isLt
  have yes : ∀ {b : BitVec 1}, b = 1#1 → (!(b == 1#1)) = false := by intro b h; subst h; rfl
  by_cases ha : act i n = 1#1
  · rcases (by omega : (i 1).val / 2 = 0 ∨ (i 1).val / 2 = 1 ∨ (i 1).val / 2 = 2) with h | h | h
    · rw [yes ((cond2_iff i n).mpr ⟨ha, h⟩)]; simp
    · rw [yes ((cond3_iff i n).mpr ⟨ha, h⟩)]; simp
    · rw [yes ((cond4_iff i n).mpr ⟨ha, h⟩)]; simp
  · rw [yes ((cond5_iff i n).mpr ha)]; simp

theorem liveAt0_6 (hO : Ok m) : ∀ t : Fin (cfgM m hO).N, (cfgM m hO).idle 6 (grid0.coords t) = false :=
  fun t => never_idle _ _
theorem liveAt0_7 (hO : Ok m) : ∀ t : Fin (cfgM m hO).N, (cfgM m hO).idle 7 (grid0.coords t) = false :=
  fun t => never_idle _ _

/-- Each window's current staging memref at point `t`, spelled as the pipeline passes it (`bodyAt0`), and its wholeness. -/
abbrev ms0_0 (hO : Ok m) (t : Fin (cfgM m hO).N) : Memref sig .tc .vmem S1x64x32x512 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x64x32 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x64x32x64 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x384x512 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x384 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x384x64 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x64x32x512 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x64x32 .f32 := spec0_7.stage ((cfgM m hO).slots t 7)
abbrev hs0_7 (hO : Ok m) (t : Fin (cfgM m hO).N) : (ms0_7 m hO t).IsWhole := hstage0_7 (((cfgM m hO).slots t 7).cast nbuf0_7)
/-- The scratch operands: whole scoped buffers of the kernel's own, passed beside the windows. -/
abbrev scM0_0 : Memref sig .tc .vmem S384x512 .bf16 := Memref.whole cc0_scratch0
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## What the body reads and leaves -/

/-- The six blocks that the body reads at point `t`. -/
def insAt (hO : Ok m) (c : Dev nD) (t : Fin (cfgM m hO).N) : Ins F :=
  ⟨iblk m hO c 0 t, iblk m hO c 1 t, iblk m hO c 2 t, iblk m hO c 3 t, iblk m hO c 4 t, iblk m hO c 5 t⟩

/-- The scratch after point `n`: the codes of the sequence, widened, as the first point of its sequence wrote them. -/
def scr (hO : Ok m) (c : Dev nD) (n : ℕ) (hn : n < (cfgM m hO).N) : Vec F S384x512 .bf16 :=
  widen (insAt m hO c ⟨n - n % 6, lt_of_le_of_lt (Nat.sub_le _ _) hn⟩).c

theorem coord1 (hO : Ok m) (t : Fin (cfgM m hO).N) : (grid0.coords t 1).val = t.val % 6 :=
  (Pipeline.Grid.coords_val (G := grid0) t 1 (by decide) rfl : (grid0.coords t 1).val = t.val / 1 % 6).trans (by rw [Nat.div_one])

/-- The scratch at a point's end, from what it was at the point's start. -/
theorem scr_step (hO : Ok m) (c : Dev nD) (t : Fin (cfgM m hO).N) (hz : t.val ≠ 0) :
    stepS (grid0.coords t 1).val (insAt m hO c t) (scr m hO c (t.val - 1) (by have := t.isLt; omega)) = scr m hO c t.val t.isLt := by
  rw [coord1 m hO t]
  unfold stepS
  by_cases h : t.val % 6 = 0
  · rw [if_pos h]
    unfold scr
    congr 3
    exact Fin.ext (by show t.val = t.val - t.val % 6; omega)
  · rw [if_neg h]
    unfold scr
    congr 3
    exact Fin.ext (by show t.val - 1 - (t.val - 1) % 6 = t.val - t.val % 6; omega)

theorem scr_first (hO : Ok m) (c : Dev nD) (t : Fin (cfgM m hO).N) (hz : t.val = 0) (s : Vec F S384x512 .bf16) :
    stepS (grid0.coords t 1).val (insAt m hO c t) s = scr m hO c t.val t.isLt := by
  rw [coord1 m hO t]
  unfold stepS
  rw [if_pos (by omega)]
  unfold scr
  congr 3
  exact Fin.ext (by show t.val = t.val - t.val % 6; omega)

/-- What point `t` leaves in the two output blocks. -/
def outO (hO : Ok m) (c : Dev nD) (t : Fin (cfgM m hO).N) : Vec F S1x64x32x512 .bf16 :=
  stepO cC (grid0.coords t 1).val (tbWord c (grid0.coords t) (tbl m 0)) (insAt m hO c t) (scr m hO c t.val t.isLt)
def outE (hO : Ok m) (c : Dev nD) (t : Fin (cfgM m hO).N) : Vec F S1x64x32 .f32 :=
  stepE cC cL cN (grid0.coords t 1).val (tbWord c (grid0.coords t) (tbl m 0)) (insAt m hO c t)

/-! ## The invariant and the proof data -/

/-- The invariant before position `n`: before the first point the scratch holds anything, afterwards what the point before left. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare (scr m hO c n hn)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl
theorem PhiS_succ (hO : Ok m) (c : Dev nD) (n : ℕ) (hn : n < (cfgM m hO).N) :
    PhiS m hO c (n + 1) hn = iprop(iprop(iprop(owns (c : Thread nD τ) scM0_0 fullShare (scr m hO c n hn)) ∗ (∃ r, prngReg c r)) ∗ Pipeline.ΦT pre0 (tbl m) c) := rfl
theorem PhiS_pos (hO : Ok m) (c : Dev nD) (n : ℕ) (h : n ≤ (cfgM m hO).N) (hz : n ≠ 0) :
    PhiS m hO c n h = iprop(iprop(iprop(owns (c : Thread nD τ) scM0_0 fullShare (scr m hO c (n - 1) (by omega))) ∗ (∃ r, prngReg c r)) ∗ Pipeline.ΦT pre0 (tbl m) c) := by
  cases n with
  | zero => exact absurd rfl hz
  | succ n => rfl

/-- The proof data of the pipeline on core `c`: the arrays as the region finds them; after the body each input's buffer at
    its block and the outputs' at what the point leaves. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => outO m hO c t
    | ⟨7, _⟩ => outE m hO c t
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = outO m hO c t := by dsimp only [dats]; try rfl
theorem after0_7 (hO : Ok m) (c : Dev nD) (t : Fin (cfgM m hO).N) : (dats m hO 0 c).after 7 t = outE m hO c t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d

/-! ## The body obligation, at a generic point -/

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t)

/-- Window 0 leaves its buffer at what the proof data say. -/
theorem leaves_0 (hO : Ok m) (c : Dev nD) (t : Fin (cfgM m hO).N) :
    (dats m hO 0 c).leavesExact 0 t = owns (c : Thread nD τ) (ms0_0 m hO t) fullShare (iblk m hO c 0 t) := by
  unfold Dat.leavesExact; rw [liveAt0_0 m hO t]; exact congrArg (owns (c : Thread nD τ) (ms0_0 m hO t) fullShare) (after0_0 m hO c t)
/-- Window 1 leaves its buffer at what the proof data say. -/
theorem leaves_1 (hO : Ok m) (c : Dev nD) (t : Fin (cfgM m hO).N) :
    (dats m hO 0 c).leavesExact 1 t = owns (c : Thread nD τ) (ms0_1 m hO t) fullShare (iblk m hO c 1 t) := by
  unfold Dat.leavesExact; rw [liveAt0_1 m hO t]; exact congrArg (owns (c : Thread nD τ) (ms0_1 m hO t) fullShare) (after0_1 m hO c t)
/-- Window 2 leaves its buffer at what the proof data say. -/
theorem leaves_2 (hO : Ok m) (c : Dev nD) (t : Fin (cfgM m hO).N) :
    (dats m hO 0 c).leavesExact 2 t = owns (c : Thread nD τ) (ms0_2 m hO t) fullShare (iblk m hO c 2 t) := by
  unfold Dat.leavesExact; rw [liveAt0_2 m hO t]; exact congrArg (owns (c : Thread nD τ) (ms0_2 m hO t) fullShare) (after0_2 m hO c t)
/-- Window 3 leaves its buffer at what the proof data say. -/
theorem leaves_3 (hO : Ok m) (c : Dev nD) (t : Fin (cfgM m hO).N) :
    (dats m hO 0 c).leavesExact 3 t = owns (c : Thread nD τ) (ms0_3 m hO t) fullShare (iblk m hO c 3 t) := by
  unfold Dat.leavesExact; rw [liveAt0_3 m hO t]; exact congrArg (owns (c : Thread nD τ) (ms0_3 m hO t) fullShare) (after0_3 m hO c t)
/-- Window 4 leaves its buffer at what the proof data say. -/
theorem leaves_4 (hO : Ok m) (c : Dev nD) (t : Fin (cfgM m hO).N) :
    (dats m hO 0 c).leavesExact 4 t = owns (c : Thread nD τ) (ms0_4 m hO t) fullShare (iblk m hO c 4 t) := by
  unfold Dat.leavesExact; rw [liveAt0_4 m hO t]; exact congrArg (owns (c : Thread nD τ) (ms0_4 m hO t) fullShare) (after0_4 m hO c t)
/-- Window 5 leaves its buffer at what the proof data say. -/
theorem leaves_5 (hO : Ok m) (c : Dev nD) (t : Fin (cfgM m hO).N) :
    (dats m hO 0 c).leavesExact 5 t = owns (c : Thread nD τ) (ms0_5 m hO t) fullShare (iblk m hO c 5 t) := by
  unfold Dat.leavesExact; rw [liveAt0_5 m hO t]; exact congrArg (owns (c : Thread nD τ) (ms0_5 m hO t) fullShare) (after0_5 m hO c t)
/-- Window 6 leaves its buffer at what the proof data say. -/
theorem leaves_6 (hO : Ok m) (c : Dev nD) (t : Fin (cfgM m hO).N) :
    (dats m hO 0 c).leavesExact 6 t = owns (c : Thread nD τ) (ms0_6 m hO t) fullShare (outO m hO c t) := by
  unfold Dat.leavesExact; rw [liveAt0_6 m hO t]; exact congrArg (owns (c : Thread nD τ) (ms0_6 m hO t) fullShare) (after0_6 m hO c t)
/-- Window 7 leaves its buffer at what the proof data say. -/
theorem leaves_7 (hO : Ok m) (c : Dev nD) (t : Fin (cfgM m hO).N) :
    (dats m hO 0 c).leavesExact 7 t = owns (c : Thread nD τ) (ms0_7 m hO t) fullShare (outE m hO c t) := by
  unfold Dat.leavesExact; rw [liveAt0_7 m hO t]; exact congrArg (owns (c : Thread nD τ) (ms0_7 m hO t) fullShare) (after0_7 m hO c t)

set_option maxHeartbeats 3200000 in
/-- The body at any point: it is handed the blocks and the scratch, and leaves them as the proof data say. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  rw [leaves_0, leaves_1, leaves_2, leaves_3, leaves_4, leaves_5, leaves_6, leaves_7, PhiS_castSucc m hO c t]
  have run := fun (d6 : Vec F S1x64x32x512 .bf16) (d7 : Vec F S1x64x32 .f32) (s : Vec F S384x512 .bf16) =>
    body_runs c (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) (grid0.coords t) (tbl m 0) (insAt m hO c t) d6 d7 s Set.univ
  by_cases hz : t.val = 0
  · rw [PhiS_zero m hO c _ _ hz, PhiT0_eq, PhiA0_eq]
    simp only [scr_first m hO c t hz] at run
    iintro ⟨⟨⟨⟨%ds, HS⟩, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run ((dats m hO 0 c).before 6 t d6) ((dats m hO 0 c).before 7 t d7) ds _)
    unfold heldT held
    isplitl [H0 H1 H2 H3 H4 H5 H6 H7 HS HT]
    · isplitl [H0 H1 H2 H3 H4 H5 H6 H7 HS]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact HS
      iexact HT
    iintro ⟨⟨H0, H1, H2, H3, H4, H5, H6, H7, HS⟩, HT⟩
    isplitl [HS Hg HT]
    · isplitl [HS Hg]
      · isplitl [HS]
        · iexact HS
        iexact Hg
      iexact HT
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [PhiS_pos m hO c _ _ hz, PhiT0_eq]
    have hs := scr_step m hO c t hz
    replace run := fun d6 d7 => run d6 d7 (scr m hO c (t.val - 1) (by have := t.isLt; omega))
    rw [hs] at run
    iintro ⟨⟨⟨HS, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run ((dats m hO 0 c).before 6 t d6) ((dats m hO 0 c).before 7 t d7) _)
    unfold heldT held
    isplitl [H0 H1 H2 H3 H4 H5 H6 H7 HS HT]
    · isplitl [H0 H1 H2 H3 H4 H5 H6 H7 HS]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact HS
      iexact HT
    iintro ⟨⟨H0, H1, H2, H3, H4, H5, H6, H7, HS⟩, HT⟩
    isplitl [HS Hg HT]
    · isplitl [HS Hg]
      · isplitl [HS]
        · iexact HS
        iexact Hg
      iexact HT
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨HS0, Hg⟩, -⟩
  isplitl [HS0]
  · iexists _; iexact HS0
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 18 := N_0; omega)

/-! ## The run and the frame -/

-- `θ_run_frameP_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO) (A_eq m hO) (run_main m ρ hO)

/-- THE FRAME: every execution ends, without a fault, with the arguments unchanged and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_main_quiescent m ρ hO))

end Cert.KernelIdeal.Body

end
-- ==== Proof.KernelIdeal.Ok.lean ====
/- The windows of `KernelIdeal` lie inside their arrays when every sequence has a token, and so its frame holds then. -/
module

public import proofs.«01_k».proof.Defs
public import proofs.«01_k».proof.Proof.KernelIdeal.Frame
public import proofs.«01_k».proof.Proof.Words
public import proofs.«01_k».proof.Proof.Gen.Pre_lengths_positive

@[expose] public section

noncomputable section

namespace Cert.KernelIdeal.Body

open Idealize.ShloMosaic Idealize.ShloMosaic.TcCoe
open Cert.KernelIdeal Cert.KernelIdeal.Gen Cert.Mla

variable {F : FTy → Type} [FloatOps F] [Named F]
variable (m : (ℓ : Loc nD τ sig) → Buf (Elt F) ℓ)

/-- Every word of the table of lengths is positive. -/
abbrev Pos : Prop := ∀ x : S3.Idx, Scalar.cmpi .sge (m (((0 : Dev nD) : Thread nD τ).loc main_arg6) x) 1#32 = 1#1

theorem tbl_eq : tbl m 0 = m (((0 : Dev nD) : Thread nD τ).loc main_arg6) := V_main_arg6 m 0

theorem tbl_pos (h : Pos m) (x : S3.Idx) : Scalar.cmpi .sge (tbl m 0 x) 1#32 = 1#1 := by
  rw [tbl_eq]; exact h x

theorem seq_inb (i : grid0.Coords) : ((BitVec.ofNat 32 (i 0).val).toNat + 1) * 1 ≤ 3 := by
  have h : (i 0).val < 3 := (i 0).isLt
  rw [BitVec.toNat_ofNat, Nat.mod_eq_of_lt (by omega)]; omega

theorem blk_inb (i : grid0.Coords) (n : BitVec 32) (h : Scalar.cmpi .sge n 1#32 = 1#1) : ((blk (i 1).val n).toNat + 1) * 64 ≤ 384 := by
  have := blk_lt (i1 := (i 1).val) (i 1).isLt n h; omega

/-- The windows that read the table lie inside their arrays. -/
theorem ok_of_pos (h : Pos m) : Ok m := by
  refine ⟨fun i => ⟨fun a => ?_, .inr (Affine.block_words_dvd (of_decide_eq_true rfl) (by decide))⟩,
    fun i => ⟨fun a => ?_, .inl rfl⟩,
    fun i => ⟨fun a => ?_, .inr (Affine.block_words_dvd (of_decide_eq_true rfl) (by decide))⟩⟩
  · match a with
    | ⟨0, _⟩ => exact seq_inb i
    | ⟨1, _⟩ => exact blk_inb i _ (tbl_pos m h _)
    | ⟨2, _⟩ => exact le_refl _
    | ⟨3, _⟩ => exact le_refl _
  · match a with
    | ⟨0, _⟩ => exact seq_inb i
    | ⟨1, _⟩ => exact blk_inb i _ (tbl_pos m h _)
    | ⟨2, _⟩ => exact le_refl _
  · match a with
    | ⟨0, _⟩ => exact seq_inb i
    | ⟨1, _⟩ => exact blk_inb i _ (tbl_pos m h _)
    | ⟨2, _⟩ => exact le_refl _
    | ⟨3, _⟩ => exact le_refl _

/-- The precondition of the claims says that every length is positive. -/
theorem pos_of_pre (m : (ℓ : Loc nD τ sig) → Buf (Elt Ideal) ℓ) (h : Cert.Pre_KernelIdeal m) : Pos m := fun x => congrFun (h 0) x

end Cert.KernelIdeal.Body
end
-- ==== Proof.Row.lean ====
/- One row of causal attention over the extended reals: the scores of one head of one token against the 384 cached keys,
   their maximum, the exponentials and their sum, the log-sum-exp, the weights and the weighted sum of the cached rows. -/
module

public import Idealize.ShloMosaic.PureOps.Ideal

@[expose] public section

noncomputable section

namespace Cert.Mla

open Idealize.ShloMosaic

/-- The word of minus infinity is minus infinity. -/
theorem negInf : Ideal.ofBits .f32 0xFF800000#32 = ⊥ := by
  simp [Ideal.ofBits, Ideal.ieee]

/-- What a row is computed from: the products of its query codes and of its rotary query with each key (`a`, `r`), the
    query scale, the key scales, and its position. -/
structure RowArgs where
  a : Fin 384 → EReal
  r : Fin 384 → EReal
  qs : EReal
  cs : Fin 384 → EReal
  t : ℕ

/-- The softmax scale, one over the square root of 192. -/
def smScale : EReal := (((Real.sqrt 192)⁻¹ : ℝ) : EReal)

namespace RowArgs

variable (x : RowArgs)

/-- The score of key `k` before the mask. -/
def raw (k : Fin 384) : EReal := (x.a k * x.qs * x.cs k + x.r k) * smScale

/-- The score of key `k`: minus infinity after the row's position. -/
def sc (k : Fin 384) : EReal := if k.val ≤ x.t then x.raw k else ⊥

/-- The largest score. -/
def mx : EReal := Finset.univ.fold max ⊥ x.sc

/-- The exponential of a score against the largest. -/
def ex (k : Fin 384) : EReal := Ideal.exp (x.sc k - x.mx)

/-- Their sum. -/
def sm : EReal := ∑ k, x.ex k

/-- The log-sum-exp. -/
def lse : EReal := x.mx + Ideal.log x.sm

/-- The weight of key `k`, its scale applied. -/
def wt (k : Fin 384) : EReal := x.ex k * Ideal.div 1 x.sm * x.cs k

/-- The weighted sum of the cached values `c`. -/
def ov (c : Fin 384 → EReal) : EReal := ∑ k, x.wt k * c k

end RowArgs

end Cert.Mla
end
-- ==== Proof.RowMath.lean ====
/- The row as the kernel computes it, in powers of two and in blocks of 128 keys, against the row of the reference: scores
   and maximum are scaled by the logarithm's base, exponentials, sum, weights and log-sum-exp are the same, and the blocks
   past the row's position add nothing. -/
module

public import proofs.«01_k».proof.Proof.Row

@[expose] public section

noncomputable section

namespace Cert.Mla

open Idealize.ShloMosaic

/-- One over the logarithm of two, the logarithm of two, and the softmax scale times the first. -/
def log2e : EReal := (((Real.log 2)⁻¹ : ℝ) : EReal)
def ln2 : EReal := ((Real.log 2 : ℝ) : EReal)
def scaleLog2e : EReal := (((Real.sqrt 192)⁻¹ * (Real.log 2)⁻¹ : ℝ) : EReal)

theorem log_two_pos : 0 < Real.log 2 := Real.log_pos one_lt_two
theorem log2e_pos : (0 : EReal) < log2e := EReal.coe_pos.mpr (inv_pos.mpr log_two_pos)
theorem log2e_ne_top : log2e ≠ ⊤ := EReal.coe_ne_top _
theorem scaleLog2e_eq : scaleLog2e = smScale * log2e := EReal.coe_mul _ _
theorem log2e_mul_ln2 : log2e * ln2 = 1 := by
  unfold log2e ln2
  rw [← EReal.coe_mul, inv_mul_cancel₀ log_two_pos.ne']; rfl

theorem smScale_nonneg : (0 : EReal) ≤ smScale := EReal.coe_nonneg.mpr (inv_nonneg.mpr (Real.sqrt_nonneg _))

/-- Differences scale. -/
theorem sub_mul_log2e (a b : EReal) : a * log2e - b * log2e = (a - b) * log2e :=
  (EReal.sub_mul_of_nonneg_of_ne_top log2e_pos.le log2e_ne_top).symm

theorem add_mul_log2e (a b : EReal) : a * log2e + b * log2e = (a + b) * log2e :=
  (EReal.right_distrib_of_nonneg_of_ne_top log2e_pos.le log2e_ne_top a b).symm

/-- The power of two of a scaled number is its exponential. -/
theorem exp2_mul_log2e (z : EReal) : Ideal.exp2 (z * log2e) = Ideal.exp z := by
  induction z with
  | bot => rw [EReal.bot_mul_of_pos log2e_pos]; rfl
  | top => rw [EReal.top_mul_of_pos log2e_pos]; rfl
  | coe r =>
    unfold log2e
    rw [← EReal.coe_mul]
    show ((Real.rpow 2 (r * (Real.log 2)⁻¹) : ℝ) : EReal) = ((Real.exp r : ℝ) : EReal)
    congr 1
    show (2 : ℝ) ^ (r * (Real.log 2)⁻¹) = Real.exp r
    rw [Real.rpow_def_of_pos two_pos]
    congr 1
    field_simp [log_two_pos.ne']

/-- Key `x` of block `b`. -/
def key (b : Fin 3) (x : Fin 128) : Fin 384 := ⟨128 * b.val + x.val, by omega⟩

theorem exists_key (k : Fin 384) : ∃ b x, k = key b x :=
  ⟨⟨k.val / 128, by omega⟩, ⟨k.val % 128, by omega⟩, Fin.ext (by show k.val = 128 * (k.val / 128) + k.val % 128; omega)⟩

/-- A maximum over all keys is one over the lanes of the three blocks. -/
theorem max_blocks (f : Fin 384 → EReal) :
    Finset.univ.fold max ⊥ f = Finset.univ.fold max ⊥ fun x => max (max (f (key 0 x)) (f (key 1 x))) (f (key 2 x)) := by
  show Finset.univ.sup f = Finset.univ.sup fun x => max (max (f (key 0 x)) (f (key 1 x))) (f (key 2 x))
  apply le_antisymm
  · refine Finset.sup_le fun k _ => ?_
    obtain ⟨b, x, rfl⟩ := exists_key k
    refine le_trans ?_ (Finset.le_sup (f := fun x => max (max (f (key 0 x)) (f (key 1 x))) (f (key 2 x))) (Finset.mem_univ x))
    match b with
    | 0 => exact le_max_of_le_left (le_max_left _ _)
    | 1 => exact le_max_of_le_left (le_max_right _ _)
    | 2 => exact le_max_right _ _
  · exact Finset.sup_le fun x _ => max_le (max_le (Finset.le_sup (Finset.mem_univ _)) (Finset.le_sup (Finset.mem_univ _))) (Finset.le_sup (Finset.mem_univ _))

/-- A sum over all keys likewise. -/
theorem sum_blocks (f : Fin 384 → EReal) : ∑ k, f k = ∑ x, (f (key 0 x) + f (key 1 x) + f (key 2 x)) := by
  have e : ∑ k, f k = ∑ p : Fin 3 × Fin 128, f (key p.1 p.2) := by
    refine (Fintype.sum_bijective (fun p : Fin 3 × Fin 128 => key p.1 p.2) ⟨?_, ?_⟩ _ _ fun _ => rfl).symm
    · rintro ⟨b, x⟩ ⟨b', x'⟩ h
      have h' : 128 * b.val + x.val = 128 * b'.val + x'.val := congrArg Fin.val h
      exact Prod.ext (Fin.ext (by show b.val = b'.val; omega)) (Fin.ext (by show x.val = x'.val; omega))
    · intro k
      obtain ⟨b, x, rfl⟩ := exists_key k
      exact ⟨(b, x), rfl⟩
  rw [e, Fintype.sum_prod_type, Fin.sum_univ_three, ← Finset.sum_add_distrib, ← Finset.sum_add_distrib]

/-- A sum over the first keys, when the others add nothing. -/
theorem sum_first {nk : ℕ} (h : nk ≤ 384) (f : Fin 384 → EReal) (hz : ∀ k : Fin 384, nk ≤ k.val → f k = 0) :
    ∑ k : Fin nk, f (k.castLE h) = ∑ k, f k := by
  refine Finset.sum_of_injOn (Fin.castLE h) (fun a _ b _ e => Fin.ext (congrArg (fun k : Fin 384 => k.val) e)) (fun _ _ => Finset.mem_coe.mpr (Finset.mem_univ _)) ?_ (fun _ _ => rfl)
  intro k _ hk
  refine hz k (not_lt.mp fun hlt => hk ?_)
  exact ⟨⟨k.val, hlt⟩, Finset.mem_coe.mpr (Finset.mem_univ _), rfl⟩

namespace RowArgs

variable (x : RowArgs)

/-- The kernel's score of key `k` before the mask. -/
def kraw (k : Fin 384) : EReal := x.a k * (x.qs * scaleLog2e) * x.cs k + x.r k * scaleLog2e

theorem kraw_eq (k : Fin 384) : x.kraw k = x.raw k * log2e := by
  unfold kraw raw
  rw [EReal.right_distrib_of_nonneg_of_ne_top smScale_nonneg (EReal.coe_ne_top _),
    EReal.right_distrib_of_nonneg_of_ne_top log2e_pos.le log2e_ne_top, scaleLog2e_eq]
  ac_rfl

/-- A key after the position has score minus infinity, -/
theorem sc_after {k : Fin 384} (h : x.t < k.val) : x.sc k = ⊥ := if_neg (by omega)

/-- its exponential is zero, -/
theorem ex_after {k : Fin 384} (h : x.t < k.val) : x.ex k = 0 := by
  unfold ex
  rw [x.sc_after h, EReal.bot_sub]; rfl

/-- and so is its weight. -/
theorem wt_after {k : Fin 384} (h : x.t < k.val) : x.wt k = 0 := by
  unfold wt
  rw [x.ex_after h, zero_mul, zero_mul]

/-- The kernel's masked score. -/
theorem kmask (k : Fin 384) : (if k.val ≤ x.t then x.kraw k else ⊥) = x.sc k * log2e := by
  unfold sc
  split
  · exact x.kraw_eq k
  · rw [EReal.bot_mul_of_pos log2e_pos]

/-- A key up to the position needs no mask. -/
theorem knomask {k : Fin 384} (h : k.val ≤ x.t) : x.kraw k = x.sc k * log2e := by
  rw [← x.kmask, if_pos h]

/-- The largest scaled score is the largest score, scaled. -/
theorem mx_scaled : Finset.univ.fold max ⊥ (fun k => x.sc k * log2e) = x.mx * log2e := by
  show Finset.univ.sup (fun k => x.sc k * log2e) = Finset.univ.sup x.sc * log2e
  exact (Finset.comp_sup_eq_sup_comp_of_is_total (s := Finset.univ) (f := x.sc) (fun z => z * log2e)
    (fun a b hab => mul_le_mul_of_nonneg_right hab log2e_pos.le) (EReal.bot_mul_of_pos log2e_pos)).symm

/-- The maximum over one, two and three blocks. -/
theorem mx1 (h : x.t < 128) : Finset.univ.fold max ⊥ (fun l => x.sc (key 0 l) * log2e) = x.mx * log2e := by
  rw [← mx_scaled, max_blocks]
  refine congrArg (fun f => Finset.univ.fold max ⊥ f) (funext fun l => ?_)
  rw [x.sc_after (k := key 1 l) (by show _ < 128 * 1 + l.val; omega), x.sc_after (k := key 2 l) (by show _ < 128 * 2 + l.val; omega),
    EReal.bot_mul_of_pos log2e_pos, max_bot_right, max_bot_right]

theorem mx2 (h : x.t < 256) : Finset.univ.fold max ⊥ (fun l => max (x.sc (key 0 l) * log2e) (x.sc (key 1 l) * log2e)) = x.mx * log2e := by
  rw [← mx_scaled, max_blocks]
  refine congrArg (fun f => Finset.univ.fold max ⊥ f) (funext fun l => ?_)
  rw [x.sc_after (k := key 2 l) (by show _ < 128 * 2 + l.val; omega), EReal.bot_mul_of_pos log2e_pos, max_bot_right]

theorem mx3 : Finset.univ.fold max ⊥ (fun l => max (max (x.sc (key 0 l) * log2e) (x.sc (key 1 l) * log2e)) (x.sc (key 2 l) * log2e))
    = x.mx * log2e := by
  rw [← mx_scaled, max_blocks]

/-- The kernel's exponential. -/
theorem kexp (k : Fin 384) : Ideal.exp2 (x.sc k * log2e - x.mx * log2e) = x.ex k := by
  rw [sub_mul_log2e, exp2_mul_log2e]; rfl

/-- The sum over one, two and three blocks. -/
theorem sm1 (h : x.t < 128) : ∑ l, x.ex (key 0 l) = x.sm := by
  unfold sm
  rw [sum_blocks]
  refine Finset.sum_congr rfl fun l _ => ?_
  rw [x.ex_after (k := key 1 l) (by show _ < 128 * 1 + l.val; omega), x.ex_after (k := key 2 l) (by show _ < 128 * 2 + l.val; omega),
    add_zero, add_zero]

theorem sm2 (h : x.t < 256) : ∑ l, (x.ex (key 0 l) + x.ex (key 1 l)) = x.sm := by
  unfold sm
  rw [sum_blocks]
  refine Finset.sum_congr rfl fun l _ => ?_
  rw [x.ex_after (k := key 2 l) (by show _ < 128 * 2 + l.val; omega), add_zero]

theorem sm3 : ∑ l, (x.ex (key 0 l) + x.ex (key 1 l) + x.ex (key 2 l)) = x.sm := by
  unfold sm
  rw [sum_blocks]

/-- The kernel's log-sum-exp. -/
theorem klse : (x.mx * log2e + Ideal.log x.sm * log2e) * ln2 = x.lse := by
  rw [add_mul_log2e, mul_assoc, log2e_mul_ln2, mul_one]; rfl

/-- The kernel's weighted sum over the first keys. -/
theorem kov {nk : ℕ} (h : nk ≤ 384) (ht : x.t < nk) (c : Fin 384 → EReal) :
    ∑ k : Fin nk, x.wt (k.castLE h) * c (k.castLE h) = x.ov c :=
  sum_first h (fun k => x.wt k * c k) fun k hk => by
    show x.wt k * c k = 0
    rw [x.wt_after (by omega), zero_mul]

end RowArgs

end Cert.Mla
end
-- ==== Proof.KernelRow.lean ====
/- A token's row as the kernel computes it, read at a head: over one, two or three blocks of keys its maximum is the
   reference's, scaled, and its sum and its weights are the reference's. -/
module

public import proofs.«01_k».proof.Proof.Payload
public import proofs.«01_k».proof.Proof.RowMath
public import proofs.«01_k».proof.Proof.Words
public import Idealize.ShloMosaic.Lib.Pointwise.Tactic
public import Idealize.ShloMosaic.Lib.Pointwise

@[expose] public section

noncomputable section

namespace Cert.Mla

open Idealize.ShloMosaic

/-- What the row of token `t` of chunk `j` reads is the 32 heads' row `x`, all at position `pos`. -/
structure RowIn {nk : ℕ} (hn : nk ≤ 384) (X : Ctx Ideal) (slat srop : FVec Ideal (Mat 256 nk) .f32) (j t : ℕ) (hj : j < 8) (ht : t < 8)
    (x : Fin 32 → RowArgs) (pos : ℕ) : Prop where
  C : X.C = scaleLog2e
  lat : ∀ (h : Fin 32) (k : Fin nk), slat (ix2 (⟨32 * t + h.val, by omega⟩ : Fin 256) k) = (x h).a (k.castLE hn)
  rop : ∀ (h : Fin 32) (k : Fin nk), srop (ix2 (⟨32 * t + h.val, by omega⟩ : Fin 256) k) = (x h).r (k.castLE hn)
  qs : ∀ h : Fin 32, X.qs (ix2 h (⟨8 * j + t, by omega⟩ : Fin 64)) = (x h).qs * scaleLog2e
  cs : ∀ (h : Fin 32) (k : Fin 384), X.cs (ix2 (0 : Fin 1) k) = (x h).cs k
  at_pos : ∀ h, (x h).t = pos
  word : tokPos X (8 * j + t) = BitVec.ofNat 32 pos
  small : pos < 384

/-- What the row yields is what the reference's does. -/
structure RowOut {nk : ℕ} (hn : nk ≤ 384) (R : Row Ideal nk) (x : Fin 32 → RowArgs) : Prop where
  m : ∀ h : Fin 32, R.m (ix2 h (0 : Fin 1)) = (x h).mx * log2e
  l : ∀ h : Fin 32, R.l (ix2 h (0 : Fin 1)) = (x h).sm
  w : ∀ (h : Fin 32) (k : Fin nk), R.w (ix2 h k) = (x h).wt (k.castLE hn)

/-! ## The operations at an index -/

theorem slice_at {a b a' b' r k : ℕ} (v : FVec Ideal (Mat a b) .f32) (hr : r + a' ≤ a) (hk : k + b' ≤ b) (h : Fin a') (x : Fin b') :
    extractStridedSlice (Mat a' b') ![r, k] v (slices_mat hr hk) (ix2 h x) = v (ix2 (⟨r + h.val, by omega⟩ : Fin a) (⟨k + x.val, by omega⟩ : Fin b)) :=
  congrArg v (funext fun d => Fin.ext (by
    match d with
    | ⟨0, _⟩ => rfl
    | ⟨1, _⟩ => rfl))

theorem qCol_at (qs : FVec Ideal (Mat 32 64) .f32) (tok : ℕ) (ht : tok < 64) (h : Fin 32) (z : Fin 1) :
    qCol qs tok ht (ix2 h z) = qs (ix2 h (⟨tok, ht⟩ : Fin 64)) := by
  unfold qCol
  pointwise

theorem csBlk_at (cs : FVec Ideal (Mat 1 384) .f32) (k : ℕ) (hk : k + 128 ≤ 384) (z : Fin 1) (x : Fin 128) :
    csBlk cs k hk (ix2 z x) = cs (ix2 (0 : Fin 1) (⟨k + x.val, by omega⟩ : Fin 384)) := by
  unfold csBlk
  pointwise

theorem score_at (C : EReal) {nk : ℕ} (slat srop : FVec Ideal (Mat 256 nk) .f32) (q : FVec Ideal (Mat 32 1) .f32)
    (cs : FVec Ideal (Mat 1 128) .f32) (r k : ℕ) (hr : r + 32 ≤ 256) (hk : k + 128 ≤ nk) (h : Fin 32) (x : Fin 128) :
    score (F := Ideal) C slat srop q cs r k hr hk (ix2 h x)
      = slat (ix2 (⟨r + h.val, by omega⟩ : Fin 256) (⟨k + x.val, by omega⟩ : Fin nk)) * q (ix2 h (0 : Fin 1)) * cs (ix2 (0 : Fin 1) x)
        + srop (ix2 (⟨r + h.val, by omega⟩ : Fin 256) (⟨k + x.val, by omega⟩ : Fin nk)) * C := by
  rw [← slice_at slat hr hk, ← slice_at srop hr hk]
  unfold score
  generalize extractStridedSlice (Mat 32 128) ![r, k] slat _ = a
  generalize extractStridedSlice (Mat 32 128) ![r, k] srop _ = b
  pointwise

theorem maskKeys_at (k pos : ℕ) (hk : k ≤ 256) (hp : pos < 384) (s : FVec Ideal (Mat 32 128) .f32) (h : Fin 32) (x : Fin 128) :
    maskKeys (keyRow (BitVec.ofNat 32 k)) (BitVec.ofNat 32 pos) s (ix2 h x) = if k + x.val ≤ pos then s (ix2 h x) else ⊥ := by
  unfold maskKeys keyRow
  pointwise
  rw [show IntOp.addi (BitVec.ofNat 32 x.val) (BitVec.ofNat 32 k) = BitVec.ofNat 32 (k + x.val) from by
    rw [Nat.add_comm, BitVec.ofNat_add]; rfl, select_sle _ _ (by omega) (by omega), negInf]

theorem rowMax_at (s : FVec Ideal (Mat 32 128) .f32) (h : Fin 32) (z : Fin 1) :
    rowMax s (ix2 h z) = Finset.univ.fold max ⊥ fun x : Fin 128 => s (ix2 h x) := by
  unfold rowMax
  pointwise
  rw [negInf]

theorem rowSum_at (s : FVec Ideal (Mat 32 128) .f32) (h : Fin 32) (z : Fin 1) :
    rowSum s (ix2 h z) = ∑ x : Fin 128, s (ix2 h x) := by
  unfold rowSum
  pointwise

theorem expBlk_at (s : FVec Ideal (Mat 32 128) .f32) (m : FVec Ideal (Mat 32 1) .f32) (h : Fin 32) (x : Fin 128) :
    expBlk s m (ix2 h x) = Ideal.exp2 (s (ix2 h x) - m (ix2 h (0 : Fin 1))) := by
  unfold expBlk
  pointwise
  rfl

theorem wBlk_at (e : FVec Ideal (Mat 32 128) .f32) (l : FVec Ideal (Mat 32 1) .f32) (cs : FVec Ideal (Mat 1 128) .f32) (h : Fin 32) (x : Fin 128) :
    wBlk e l cs (ix2 h x) = e (ix2 h x) * Ideal.div 1 (l (ix2 h (0 : Fin 1))) * cs (ix2 (0 : Fin 1) x) := by
  unfold wBlk
  pointwise

theorem lseCol_at (L N : EReal) (m l : FVec Ideal (Mat 32 1) .f32) (h : Fin 32) (z : Fin 1) :
    lseCol (F := Ideal) L N m l (ix2 h z) = (m (ix2 h z) + Ideal.log (l (ix2 h z)) * L) * N := by
  unfold lseCol
  pointwise

theorem concat2_at (a b : FVec Ideal (Mat 32 128) .bf16) (h : Fin 32) (k : Fin 256) :
    concatenate (Mat 32 256) 1 [⟨Mat 32 128, a⟩, ⟨Mat 32 128, b⟩] concat2 (ix2 h k)
      = if hk : k.val < 128 then a (ix2 h (⟨k.val, hk⟩ : Fin 128)) else b (ix2 h (⟨k.val - 128, by omega⟩ : Fin 128)) := by
  pointwise

theorem concat3_at (a b c : FVec Ideal (Mat 32 128) .bf16) (h : Fin 32) (k : Fin 384) :
    concatenate (Mat 32 384) 1 [⟨Mat 32 128, a⟩, ⟨Mat 32 128, b⟩, ⟨Mat 32 128, c⟩] concat3 (ix2 h k)
      = if hk : k.val < 128 then a (ix2 h (⟨k.val, hk⟩ : Fin 128)) else
        if hk : k.val - 128 < 128 then b (ix2 h (⟨k.val - 128, hk⟩ : Fin 128)) else c (ix2 h (⟨k.val - 128 - 128, by omega⟩ : Fin 128)) := by
  pointwise

/-! ## One block of a row -/

section block

variable {nk : ℕ} {hn : nk ≤ 384} {X : Ctx Ideal} {slat srop : FVec Ideal (Mat 256 nk) .f32} {j t : ℕ} {hj : j < 8} {ht : t < 8}
  {x : Fin 32 → RowArgs} {pos : ℕ}

/-- The block's scores before the mask. -/
theorem RowIn.score (I : RowIn hn X slat srop j t hj ht x pos) (b : Fin 3) {k : ℕ} (hb : k = 128 * b.val) (hr : 32 * t + 32 ≤ 256)
    (hk : k + 128 ≤ nk) (hq : 8 * j + t < 64) (hc : k + 128 ≤ 384) (h : Fin 32) (l : Fin 128) :
    Mla.score X.C slat srop (qCol X.qs (8 * j + t) hq) (csBlk X.cs k hc) (32 * t) k hr hk (ix2 h l) = (x h).kraw (key b l) := by
  subst hb
  rw [score_at, qCol_at, csBlk_at, I.lat, I.rop, I.qs, I.cs h, I.C]
  rfl

/-- A masked block's scores. -/
theorem RowIn.masked (I : RowIn hn X slat srop j t hj ht x pos) (b : Fin 3) {k : ℕ} (hb : k = 128 * b.val) (hr : 32 * t + 32 ≤ 256)
    (hk : k + 128 ≤ nk) (hq : 8 * j + t < 64) (hc : k + 128 ≤ 384) (h : Fin 32) (l : Fin 128) :
    maskKeys (keyRow (BitVec.ofNat 32 k)) (tokPos X (8 * j + t))
        (Mla.score X.C slat srop (qCol X.qs (8 * j + t) hq) (csBlk X.cs k hc) (32 * t) k hr hk) (ix2 h l)
      = (x h).sc (key b l) * log2e := by
  have hs := I.small
  rw [I.word, maskKeys_at k pos (by omega) hs, I.score b hb, ← (x h).kmask, I.at_pos h, hb]
  rfl

/-- The scores of a block that needs no mask. -/
theorem RowIn.unmasked (I : RowIn hn X slat srop j t hj ht x pos) (b : Fin 3) {k : ℕ} (hb : k = 128 * b.val) (hp : k + 128 ≤ pos)
    (hr : 32 * t + 32 ≤ 256) (hk : k + 128 ≤ nk) (hq : 8 * j + t < 64) (hc : k + 128 ≤ 384) (h : Fin 32) (l : Fin 128) :
    Mla.score X.C slat srop (qCol X.qs (8 * j + t) hq) (csBlk X.cs k hc) (32 * t) k hr hk (ix2 h l) = (x h).sc (key b l) * log2e := by
  rw [I.score b hb, (x h).knomask (by rw [I.at_pos h]; show 128 * b.val + l.val ≤ pos; omega)]

/-- The block's key scales. -/
theorem RowIn.scales (I : RowIn hn X slat srop j t hj ht x pos) (b : Fin 3) {k : ℕ} (hb : k = 128 * b.val) (hc : k + 128 ≤ 384)
    (h : Fin 32) (l : Fin 128) : csBlk X.cs k hc (ix2 (0 : Fin 1) l) = (x h).cs (key b l) := by
  subst hb
  rw [csBlk_at, I.cs h]
  rfl

/-- The block's exponentials. -/
theorem exp_in {s : FVec Ideal (Mat 32 128) .f32} {m : FVec Ideal (Mat 32 1) .f32} {b : Fin 3}
    (hs : ∀ h l, s (ix2 h l) = (x h).sc (key b l) * log2e) (hm : ∀ h, m (ix2 h (0 : Fin 1)) = (x h).mx * log2e) (h : Fin 32) (l : Fin 128) :
    expBlk s m (ix2 h l) = (x h).ex (key b l) := by
  rw [expBlk_at, hs, hm, (x h).kexp]

/-- The block's weights. -/
theorem w_in {e : FVec Ideal (Mat 32 128) .f32} {l : FVec Ideal (Mat 32 1) .f32} {cs : FVec Ideal (Mat 1 128) .f32} {b : Fin 3}
    (he : ∀ h k, e (ix2 h k) = (x h).ex (key b k)) (hl : ∀ h, l (ix2 h (0 : Fin 1)) = (x h).sm)
    (hc : ∀ h k, cs (ix2 (0 : Fin 1) k) = (x h).cs (key b k)) (h : Fin 32) (k : Fin 128) : wBlk e l cs (ix2 h k) = (x h).wt (key b k) := by
  rw [wBlk_at, he, hl, hc h]
  rfl

end block

/-! ## The three rows -/

/-- Over one block. -/
theorem row1_out {X : Ctx Ideal} {slat srop : FVec Ideal (Mat 256 128) .f32} {j t : ℕ} {hj : j < 8} {ht : t < 8} {x : Fin 32 → RowArgs} {pos : ℕ}
    (I : RowIn (by decide) X slat srop j t hj ht x pos) (hp : pos < 128) : RowOut (by decide) (row1 X slat srop j t hj ht) x := by
  have s0 := I.masked 0 (k := 0) rfl (by omega) (by omega) (by omega) (by omega)
  have hm := fun h => (rowMax_at _ h 0).trans
    ((congrArg (fun f => Finset.univ.fold max ⊥ f) (funext fun l => s0 h l)).trans ((x h).mx1 (by rw [I.at_pos h]; exact hp)))
  have e0 := exp_in s0 hm
  have hl := fun h => (rowSum_at _ h 0).trans ((Finset.sum_congr rfl fun l _ => e0 h l).trans ((x h).sm1 (by rw [I.at_pos h]; exact hp)))
  have w0 := w_in e0 hl (I.scales 0 (k := 0) rfl (by omega))
  refine ⟨hm, hl, fun h k => (w0 h k).trans (congrArg (x h).wt (Fin.ext ?_))⟩
  show 128 * 0 + k.val = k.val
  omega

/-- Over two blocks. -/
theorem row2_out {X : Ctx Ideal} {slat srop : FVec Ideal (Mat 256 256) .f32} {j t : ℕ} {hj : j < 8} {ht : t < 8} {x : Fin 32 → RowArgs} {pos : ℕ}
    (I : RowIn (by decide) X slat srop j t hj ht x pos) (hp : pos < 256) (hp' : 128 ≤ pos) : RowOut (by decide) (row2 X slat srop j t hj ht) x := by
  have s0 := I.unmasked 0 (k := 0) rfl (by omega) (by omega) (by omega) (by omega) (by omega)
  have s1 := I.masked 1 (k := 128) rfl (by omega) (by omega) (by omega) (by omega)
  have hm := fun h => (rowMax_at (maximumf _ _) h 0).trans
    ((congrArg (fun f => Finset.univ.fold max ⊥ f) (funext fun l => congrArg₂ max (s0 h l) (s1 h l))).trans
      ((x h).mx2 (by rw [I.at_pos h]; exact hp)))
  have e0 := exp_in s0 hm
  have e1 := exp_in s1 hm
  have hl := fun h => (rowSum_at (addf _ _) h 0).trans
    ((Finset.sum_congr rfl fun l _ => congrArg₂ (fun a b : EReal => a + b) (e0 h l) (e1 h l)).trans ((x h).sm2 (by rw [I.at_pos h]; exact hp)))
  have w0 := w_in e0 hl (I.scales 0 (k := 0) rfl (by omega))
  have w1 := w_in e1 hl (I.scales 1 (k := 128) rfl (by omega))
  refine ⟨hm, hl, fun h k => (concat2_at _ _ h k).trans ?_⟩
  split
  · refine (w0 h _).trans (congrArg (x h).wt (Fin.ext ?_))
    show 128 * 0 + k.val = k.val
    omega
  · refine (w1 h _).trans (congrArg (x h).wt (Fin.ext ?_))
    show 128 * 1 + (k.val - 128) = k.val
    omega

/-- Over three blocks. -/
theorem row3_out {X : Ctx Ideal} {slat srop : FVec Ideal (Mat 256 384) .f32} {j t : ℕ} {hj : j < 8} {ht : t < 8} {x : Fin 32 → RowArgs} {pos : ℕ}
    (I : RowIn (by decide) X slat srop j t hj ht x pos) (hp' : 256 ≤ pos) : RowOut (by decide) (row3 X slat srop j t hj ht) x := by
  have s0 := I.unmasked 0 (k := 0) rfl (by omega) (by omega) (by omega) (by omega) (by omega)
  have s1 := I.unmasked 1 (k := 128) rfl (by omega) (by omega) (by omega) (by omega) (by omega)
  have s2 := I.masked 2 (k := 256) rfl (by omega) (by omega) (by omega) (by omega)
  have hm := fun h => (rowMax_at (maximumf (maximumf _ _) _) h 0).trans
    ((congrArg (fun f => Finset.univ.fold max ⊥ f) (funext fun l => congrArg₂ max (congrArg₂ max (s0 h l) (s1 h l)) (s2 h l))).trans (x h).mx3)
  have e0 := exp_in s0 hm
  have e1 := exp_in s1 hm
  have e2 := exp_in s2 hm
  have hl := fun h => (rowSum_at (addf (addf _ _) _) h 0).trans
    ((Finset.sum_congr rfl fun l _ => congrArg₂ (fun a b : EReal => a + b) (congrArg₂ (fun a b : EReal => a + b) (e0 h l) (e1 h l)) (e2 h l)).trans
      (x h).sm3)
  have w0 := w_in e0 hl (I.scales 0 (k := 0) rfl (by omega))
  have w1 := w_in e1 hl (I.scales 1 (k := 128) rfl (by omega))
  have w2 := w_in e2 hl (I.scales 2 (k := 256) rfl (by omega))
  refine ⟨hm, hl, fun h k => (concat3_at _ _ _ h k).trans ?_⟩
  split
  · refine (w0 h _).trans (congrArg (x h).wt (Fin.ext ?_))
    show 128 * 0 + k.val = k.val
    omega
  · split
    · refine (w1 h _).trans (congrArg (x h).wt (Fin.ext ?_))
      show 128 * 1 + (k.val - 128) = k.val
      omega
    · refine (w2 h _).trans (congrArg (x h).wt (Fin.ext ?_))
      show 128 * 2 + (k.val - 128 - 128) = k.val
      omega

/-- A token's log-sum-exp column. -/
theorem RowOut.lse {nk : ℕ} {hn : nk ≤ 384} {R : Row Ideal nk} {x : Fin 32 → RowArgs} (O : RowOut hn R x) (h : Fin 32) :
    lseCol (F := Ideal) log2e ln2 R.m R.l (ix2 h (0 : Fin 1)) = (x h).lse := by
  rw [lseCol_at, O.m, O.l, (x h).klse]

end Cert.Mla
end
-- ==== Proof.KernelWin.lean ====
/- A window of 64 tokens as the kernel computes it, read at an index: each token's output is its row's weighted sum and its
   log-sum-exp, zero from the sequence's length on. -/
module

public import proofs.«01_k».proof.Proof.KernelRow
public import Idealize.ShloMosaic.Lib.MatmulPlain
public import Idealize.ShloMosaic.Lib.ValueLayout

@[expose] public section

noncomputable section

namespace Cert.Mla

open Idealize.ShloMosaic

theorem chunkQ_at {e : EltTy} {d : ℕ} (q : Vec Ideal ⟨4, ![1, 64, 32, d]⟩ e) (j : ℕ) (hj : j < 8) (z : Fin 1) (t : Fin 8) (h : Fin 32) (k : Fin d) :
    chunkQ q j hj (ix4 z t h k) = q (ix4 (0 : Fin 1) (⟨8 * j + t.val, by omega⟩ : Fin 64) h k) :=
  congrArg q (funext fun a => Fin.ext (by
    have hz : z.val = 0 := by omega
    match a with
    | ⟨0, _⟩ => show 0 + 1 * z.val = 0; omega
    | ⟨1, _⟩ => show 8 * j + 1 * t.val = 8 * j + t.val; omega
    | ⟨2, _⟩ => show 0 + 1 * h.val = h.val; omega
    | ⟨3, _⟩ => show 0 + 1 * k.val = k.val; omega))

theorem cbOf_at (nk : ℕ) (hn : nk ≤ 384) (s : Vec Ideal (Mat 384 512) .bf16) (k : Fin nk) (d : Fin 512) :
    cbOf nk hn s (ix2 k d) = s (ix2 (k.castLE hn) d) :=
  congrArg s (funext fun a => Fin.ext (by
    match a with
    | ⟨0, _⟩ => show 0 + 1 * k.val = k.val; omega
    | ⟨1, _⟩ => show 0 + 1 * d.val = d.val; omega))

theorem window_keys_at {e : EltTy} {d : ℕ} (nk : ℕ) (hn : nk ≤ 384) (c : Vec Ideal ⟨3, ![1, 384, d]⟩ e) (z : Fin 1) (k : Fin nk) (x : Fin d) :
    VecWindow.window c ![0, 0, 0] ![1, nk, d] (inb_keys d nk hn) (ix3 z k x) = c (ix3 (0 : Fin 1) (k.castLE hn) x) :=
  congrArg c (funext fun a => Fin.ext (by
    have hz : z.val = 0 := by omega
    match a with
    | ⟨0, _⟩ => show 0 + 1 * z.val = 0; omega
    | ⟨1, _⟩ => show 0 + 1 * k.val = k.val; omega
    | ⟨2, _⟩ => show 0 + 1 * x.val = x.val; omega))

theorem keysOf_at {e : EltTy} {d : ℕ} (nk : ℕ) (hn : nk ≤ 384) (c : Vec Ideal ⟨3, ![1, 384, d]⟩ e) (k : Fin nk) (x : Fin d) :
    keysOf nk hn c (ix2 k x) = c (ix3 (0 : Fin 1) (k.castLE hn) x) := by
  rw [← window_keys_at nk hn c 0 k x]
  exact congrArg (VecWindow.window c ![0, 0, 0] ![1, nk, d] (inb_keys d nk hn)) (ValueIdx.reshapeEquiv_ix2_1ab _ k x)

/-- The rows of a chunk, eight tokens of 32 heads each, at head `h` of token `t`. -/
theorem rows_at {e : EltTy} {d : ℕ} (q : Vec Ideal ⟨4, ![1, 8, 32, d]⟩ e) (h1 : (⟨4, ![1, 8, 32, d]⟩ : Shape).ShapeCasts ⟨3, ![8, 32, d]⟩)
    (h2 : (⟨3, ![8, 32, d]⟩ : Shape).ShapeCasts (Mat 256 d)) (t : Fin 8) (h : Fin 32) (k : Fin d) :
    shapeCast (Mat 256 d) (shapeCast ⟨3, ![8, 32, d]⟩ q h1) h2 (ix2 (⟨32 * t.val + h.val, by omega⟩ : Fin 256) k) = q (ix4 (0 : Fin 1) t h k) := by
  refine congrArg q ((Shape.reshapeEquiv_reshapeEquiv _ _ _).trans (Shape.reshapeEquiv_eq_of_rowMajor _ ?_))
  rw [Shape.rowMajor_val_four, Shape.rowMajor_val_two]
  show ((0 * 8 + t.val) * 32 + h.val) * d + k.val = (32 * t.val + h.val) * d + k.val
  congr 2
  omega

theorem latScores_at {nk : ℕ} (q : Vec Ideal ⟨4, ![1, 8, 32, 512]⟩ .fp8e4m3) (c : FVec Ideal (Mat nk 512) .fp8e4m3) (t : Fin 8) (h : Fin 32) (k : Fin nk) :
    latScores q c (ix2 (⟨32 * t.val + h.val, by omega⟩ : Fin 256) k) = ∑ d : Fin 512, q (ix4 (0 : Fin 1) t h d) * c (ix2 k d) := by
  refine (Ideal.matmul_transposedRhs_apply none _ c _ _ k).trans ?_
  refine (congrArg (· + _) (Ideal.ofBits_zero .f32)).trans ((zero_add _).trans ?_)
  exact Finset.sum_congr rfl fun d _ => congrArg (· * c (ix2 k d)) (rows_at q _ _ t h d)

theorem ropeScores_at {nk : ℕ} (q : Vec Ideal ⟨4, ![1, 8, 32, 64]⟩ .bf16) (c : FVec Ideal (Mat nk 64) .bf16) (t : Fin 8) (h : Fin 32) (k : Fin nk) :
    ropeScores q c (ix2 (⟨32 * t.val + h.val, by omega⟩ : Fin 256) k) = ∑ d : Fin 64, q (ix4 (0 : Fin 1) t h d) * c (ix2 k d) := by
  refine (Ideal.matmul_transposedRhs_apply none _ c _ _ k).trans ?_
  refine (congrArg (· + _) (Ideal.ofBits_zero .f32)).trans ((zero_add _).trans ?_)
  exact Finset.sum_congr rfl fun d _ => congrArg (· * c (ix2 k d)) (rows_at q _ _ t h d)

theorem rows8_at {nk : ℕ} (w : (t : ℕ) → t < 8 → FVec Ideal (Mat 32 nk) .bf16) (t : Fin 8) (h : Fin 32) (k : Fin nk) :
    rows8 w (ix2 (⟨32 * t.val + h.val, by omega⟩ : Fin 256) k) = w t.val t.isLt (ix2 h k) :=
  concatenate_ofFn_apply (t := Mat 256 nk) (s₁ := Mat 32 nk) 0 (fun n : Fin 8 => w n.val n.isLt) (concat8 nk) rfl 32 rfl _ t
    (by show (32 * t.val + h.val) / 32 = t.val; omega) (ix2 h k) (by show h.val = (32 * t.val + h.val) % 32; omega) (fun b hb => by
      match b with
      | ⟨0, _⟩ => exact absurd rfl hb
      | ⟨1, _⟩ => rfl)

theorem outChunk_at {nk : ℕ} (n t0 : BitVec 32) (j : ℕ) (w : FVec Ideal (Mat 256 nk) .bf16) (cb : Vec Ideal (Mat nk 512) .bf16)
    (z : Fin 1) (t : Fin 8) (h : Fin 32) (d : Fin 512) :
    outChunk n t0 j w cb (ix4 z t h d)
      = Scalar.select (IntOp.cmpi .slt (BitVec.ofNat 32 t.val + (t0 + BitVec.ofNat 32 (8 * j))) n)
          (∑ k : Fin nk, w (ix2 (⟨32 * t.val + h.val, by omega⟩ : Fin 256) k) * cb (ix2 k d)) 0 := by
  have e : (matmul (φ₂ := .bf16) (DotDims.plain 256 nk 512) none w cb (constant (Mat 256 512) .f32 0x00000000#32) : FVec Ideal (Mat 256 512) .f32)
      (ix2 (⟨32 * t.val + h.val, by omega⟩ : Fin 256) d) = ∑ k : Fin nk, w (ix2 (⟨32 * t.val + h.val, by omega⟩ : Fin 256) k) * cb (ix2 k d) := by
    refine (Ideal.matmul_plain_apply none w cb _ _ d).trans ?_
    exact (congrArg (· + _) (Ideal.ofBits_zero .f32)).trans (zero_add _)
  rw [← e]
  unfold outChunk
  generalize (matmul (φ₂ := .bf16) (DotDims.plain 256 nk 512) none w cb (constant (Mat 256 512) .f32 0x00000000#32) : FVec Ideal (Mat 256 512) .f32) = M
  pointwise
  simp only [Nat.mul_comm t.val 32]
  rfl

theorem putCol_at (tok : ℕ) (v : FVec Ideal (Mat 32 1) .f32) (acc : FVec Ideal (Mat 32 64) .f32) (h : Fin 32) (c : Fin 64) :
    putCol tok v acc (ix2 h c) = Scalar.select (IntOp.cmpi .eq (BitVec.ofNat 32 c.val) (BitVec.ofNat 32 tok)) (v (ix2 h (0 : Fin 1))) (acc (ix2 h c)) := by
  unfold putCol
  pointwise

theorem outLse_at (n t0 : BitVec 32) (acc : FVec Ideal (Mat 32 64) .f32) (z : Fin 1) (t : Fin 64) (h : Fin 32) :
    outLse n t0 acc (ix3 z t h) = Scalar.select (IntOp.cmpi .slt (BitVec.ofNat 32 t.val + t0) n) (acc (ix2 h t)) 0 := by
  unfold outLse
  pointwise
  rfl

theorem scaledQs_at (C : EReal) (qs : Vec Ideal ⟨3, ![1, 64, 32]⟩ .f32) (h : Fin 32) (t : Fin 64) :
    scaledQs (F := Ideal) C qs (ix2 h t) = qs (ix3 (0 : Fin 1) t h) * C := by
  unfold scaledQs
  pointwise

theorem csRow_at (cs : Vec Ideal ⟨3, ![1, 1, 384]⟩ .f32) (z : Fin 1) (k : Fin 384) :
    csRow cs (ix2 z k) = cs (ix3 (0 : Fin 1) (0 : Fin 1) k) := by
  unfold csRow
  pointwise

theorem widen_at (c : Vec Ideal ⟨3, ![1, 384, 512]⟩ .fp8e4m3) (k : Fin 384) (d : Fin 512) :
    widen c (ix2 k d) = c (ix3 (0 : Fin 1) k d) := by
  unfold widen
  pointwise

/-! ## The log-sum-exp's columns -/

theorem select_eq {α : Type} (a b : ℕ) (ha : a < 2 ^ 32) (hb : b < 2 ^ 32) (x y : α) :
    Scalar.select (IntOp.cmpi .eq (BitVec.ofNat 32 a) (BitVec.ofNat 32 b)) x y = if a = b then x else y := by
  by_cases h : a = b
  · subst h
    have e : IntOp.cmpi .eq (BitVec.ofNat 32 a) (BitVec.ofNat 32 a) = 1#1 := by
      show BitVec.ofBool (BitVec.ofNat 32 a == BitVec.ofNat 32 a) = 1#1
      rw [beq_self_eq_true]; rfl
    rw [e, if_pos rfl]; rfl
  · have e : IntOp.cmpi .eq (BitVec.ofNat 32 a) (BitVec.ofNat 32 b) = 0#1 := by
      show BitVec.ofBool (BitVec.ofNat 32 a == BitVec.ofNat 32 b) = 0#1
      have hne : BitVec.ofNat 32 a ≠ BitVec.ofNat 32 b := fun h' => h (by
        have := congrArg BitVec.toNat h'
        rwa [BitVec.toNat_ofNat, BitVec.toNat_ofNat, Nat.mod_eq_of_lt ha, Nat.mod_eq_of_lt hb] at this)
      rw [beq_eq_false_iff_ne.mpr hne]; rfl
    rw [e, if_neg h]; rfl

theorem putCol_if (tok : ℕ) (ht : tok < 64) (v : FVec Ideal (Mat 32 1) .f32) (acc : FVec Ideal (Mat 32 64) .f32) (h : Fin 32) (c : Fin 64) :
    putCol tok v acc (ix2 h c) = if c.val = tok then v (ix2 h (0 : Fin 1)) else acc (ix2 h c) := by
  rw [putCol_at, select_eq _ _ (by omega) (by omega)]

/-- A chunk's columns hold its tokens' values, the others what they held. -/
theorem putChunk_at (j : ℕ) (hj : j < 8) (v : (t : ℕ) → t < 8 → FVec Ideal (Mat 32 1) .f32) (acc : FVec Ideal (Mat 32 64) .f32) (h : Fin 32) (c : Fin 64) :
    putChunk j v acc (ix2 h c)
      = if c.val / 8 = j then v (c.val % 8) (Nat.mod_lt _ (by decide)) (ix2 h (0 : Fin 1)) else acc (ix2 h c) := by
  unfold putChunk
  simp only [putCol_if _ (by omega : 8 * j + 7 < 64), putCol_if _ (by omega : 8 * j + 6 < 64), putCol_if _ (by omega : 8 * j + 5 < 64),
    putCol_if _ (by omega : 8 * j + 4 < 64), putCol_if _ (by omega : 8 * j + 3 < 64), putCol_if _ (by omega : 8 * j + 2 < 64),
    putCol_if _ (by omega : 8 * j + 1 < 64), putCol_if _ (by omega : 8 * j + 0 < 64)]
  have hv : ∀ (a b : ℕ) (ha : a < 8) (hb : b < 8), a = b → v a ha (ix2 h (0 : Fin 1)) = v b hb (ix2 h (0 : Fin 1)) := by
    intro a b ha hb e; subst e; rfl
  by_cases hc : c.val / 8 = j
  · rw [if_pos hc]
    repeat' split
    all_goals first | exact hv _ _ _ _ (by omega) | (exfalso; omega)
  · rw [if_neg hc]
    rw [if_neg (by omega), if_neg (by omega), if_neg (by omega), if_neg (by omega), if_neg (by omega), if_neg (by omega), if_neg (by omega),
      if_neg (by omega)]

/-- After `k` chunks the columns below `8 k` hold their tokens' values. -/
theorem accs_at (v : (j : ℕ) → j < 8 → (t : ℕ) → t < 8 → FVec Ideal (Mat 32 1) .f32) (k : ℕ) (hk : k ≤ 8) (h : Fin 32) (c : Fin 64) (hc : c.val < 8 * k) :
    accs (fun j hj acc => putChunk j (v j hj) acc) k hk (ix2 h c)
      = v (c.val / 8) (by omega) (c.val % 8) (Nat.mod_lt _ (by decide)) (ix2 h (0 : Fin 1)) := by
  induction k with
  | zero => omega
  | succ k ih =>
    refine (putChunk_at k hk (v k hk) _ h c).trans ?_
    split
    · rename_i e
      have hv : ∀ (a b : ℕ) (ha : a < 8) (hb : b < 8), a = b → v a ha (c.val % 8) (Nat.mod_lt _ (by decide)) (ix2 h (0 : Fin 1))
          = v b hb (c.val % 8) (Nat.mod_lt _ (by decide)) (ix2 h (0 : Fin 1)) := by
        intro a b ha hb e; subst e; rfl
      exact hv _ _ _ _ e.symm
    · exact ih (Nat.le_of_succ_le hk) (by omega)

/-! ## The window -/

/-- The row of head `h` of token `tok` of window `i1`, from the blocks that the window reads. -/
def winRow (I : Ins Ideal) (i1 : ℕ) (tok : Fin 64) (h : Fin 32) : RowArgs where
  a k := ∑ d : Fin 512, I.q (ix4 (0 : Fin 1) tok h d) * I.c (ix3 (0 : Fin 1) k d)
  r k := ∑ d : Fin 64, I.qr (ix4 (0 : Fin 1) tok h d) * I.kr (ix3 (0 : Fin 1) k d)
  qs := I.qs (ix3 (0 : Fin 1) tok h)
  cs k := I.cs (ix3 (0 : Fin 1) (0 : Fin 1) k)
  t := 64 * i1 + tok.val

theorem startPos_word (i1 : ℕ) : startPos i1 = BitVec.ofNat 32 (64 * i1) := by
  show BitVec.ofNat 32 i1 * BitVec.ofNat 32 64 = _
  rw [← BitVec.ofNat_mul, Nat.mul_comm]

/-- What a token of the window reads is its row. -/
theorem win_in (I : Ins Ideal) (i1 : ℕ) (hi : i1 < 6) (nk : ℕ) (hn : nk ≤ 384) (j t : ℕ) (hj : j < 8) (ht : t < 8) :
    RowIn hn (ctxOf (F := Ideal) scaleLog2e I (startPos i1)) (latScores (chunkQ I.q j hj) (keysOf nk hn I.c))
      (ropeScores (chunkQ I.qr j hj) (keysOf nk hn I.kr)) j t hj ht (winRow I i1 ⟨8 * j + t, by omega⟩) (64 * i1 + (8 * j + t)) where
  C := rfl
  lat h k := by
    refine (latScores_at _ _ ⟨t, ht⟩ h k).trans ?_
    show _ = ∑ d : Fin 512, I.q (ix4 (0 : Fin 1) (⟨8 * j + t, by omega⟩ : Fin 64) h d) * I.c (ix3 (0 : Fin 1) (k.castLE hn) d)
    exact Finset.sum_congr rfl fun d _ => congrArg₂ (fun a b : EReal => a * b) (chunkQ_at I.q j hj 0 ⟨t, ht⟩ h d) (keysOf_at nk hn I.c k d)
  rop h k := by
    refine (ropeScores_at _ _ ⟨t, ht⟩ h k).trans ?_
    show _ = ∑ d : Fin 64, I.qr (ix4 (0 : Fin 1) (⟨8 * j + t, by omega⟩ : Fin 64) h d) * I.kr (ix3 (0 : Fin 1) (k.castLE hn) d)
    exact Finset.sum_congr rfl fun d _ => congrArg₂ (fun a b : EReal => a * b) (chunkQ_at I.qr j hj 0 ⟨t, ht⟩ h d) (keysOf_at nk hn I.kr k d)
  qs h := scaledQs_at _ _ h _
  cs h k := csRow_at _ _ k
  at_pos h := rfl
  word := by
    show startPos i1 + BitVec.ofNat 32 (8 * j + t) = _
    rw [startPos_word, ← BitVec.ofNat_add]
  small := by omega

/-- A row function that computes the reference's row at the positions from `lo` to `nk`. -/
def Computes {nk : ℕ} (hn : nk ≤ 384) (row : RowFn Ideal nk) (lo : ℕ) : Prop :=
  ∀ {X : Ctx Ideal} {slat srop : FVec Ideal (Mat 256 nk) .f32} {j t : ℕ} {hj : j < 8} {ht : t < 8} {x : Fin 32 → RowArgs} {pos : ℕ},
    RowIn hn X slat srop j t hj ht x pos → lo ≤ pos → pos < nk → RowOut hn (row X slat srop j t hj ht) x

theorem computes1 : Computes (nk := 128) (by decide) row1 0 := fun I _ h => row1_out I h
theorem computes2 : Computes (nk := 256) (by decide) row2 128 := fun I h h' => row2_out I h' h
theorem computes3 : Computes (nk := 384) (by decide) row3 256 := fun I h _ => row3_out I h

/-- The rows' mask, one token. -/
def keep (p : ℕ) (n : BitVec 32) (v : EReal) : EReal := Scalar.select (IntOp.cmpi .slt (BitVec.ofNat 32 p) n) v 0

section attend

variable {nk : ℕ} (hn : nk ≤ 384) {row : RowFn Ideal nk} {lo : ℕ} (hrow : Computes hn row lo) (I : Ins Ideal) (i1 : ℕ) (hi : i1 < 6)
  (hlo : lo ≤ 64 * i1) (hhi : 64 * i1 + 64 ≤ nk) (n : BitVec 32)

include hrow hi hlo hhi

theorem chunk_out (j t : ℕ) (hj : j < 8) (ht : t < 8) :
    RowOut hn (chunkRow row (ctxOf (F := Ideal) scaleLog2e I (startPos i1)) (keysOf nk hn I.c) (keysOf nk hn I.kr) I.q I.qr j hj t ht)
      (winRow I i1 ⟨8 * j + t, by omega⟩) :=
  hrow (win_in I i1 hi nk hn j t hj ht) (by omega) (by omega)

/-- The output block. -/
theorem attO_at (s : Vec Ideal (Mat 384 512) .bf16) (z : Fin 1) (tok : Fin 64) (h : Fin 32) (d : Fin 512) :
    attO (F := Ideal) scaleLog2e nk hn row n (startPos i1) I s (ix4 z tok h d)
      = keep (64 * i1 + tok.val) n ((winRow I i1 tok h).ov fun k => s (ix2 k d)) := by
  have hj : tok.val / 8 < 8 := by omega
  have ht : tok.val % 8 < 8 := by omega
  have e : (⟨8 * (tok.val / 8) + tok.val % 8, by omega⟩ : Fin 64) = tok := Fin.ext (by show 8 * (tok.val / 8) + tok.val % 8 = tok.val; omega)
  have O := chunk_out hn hrow I i1 hi hlo hhi (tok.val / 8) (tok.val % 8) hj ht
  rw [e] at O
  refine Eq.trans ?_ ((outChunk_at n (startPos i1) (tok.val / 8)
    (rows8 fun t ht => (chunkRow row (ctxOf (F := Ideal) scaleLog2e I (startPos i1)) (keysOf nk hn I.c) (keysOf nk hn I.kr) I.q I.qr (tok.val / 8) hj t ht).w)
    (cbOf nk hn s) z ⟨tok.val % 8, ht⟩ h d).trans ?_)
  · refine congrArg (outChunk n (startPos i1) (tok.val / 8) _ (cbOf nk hn s)) (funext fun a => ?_)
    match a with
    | ⟨0, _⟩ => rfl
    | ⟨1, _⟩ => rfl
    | ⟨2, _⟩ => rfl
    | ⟨3, _⟩ => rfl
  · have hw : BitVec.ofNat 32 (tok.val % 8) + (startPos i1 + BitVec.ofNat 32 (8 * (tok.val / 8))) = BitVec.ofNat 32 (64 * i1 + tok.val) := by
      rw [startPos_word, ← BitVec.ofNat_add, ← BitVec.ofNat_add]
      congr 1
      omega
    refine congrArg₂ (fun (p : BitVec 32) (v : EReal) => Scalar.select (IntOp.cmpi .slt p n) v 0) hw ?_
    rw [← (winRow I i1 tok h).kov hn (by show 64 * i1 + tok.val < nk; omega)]
    refine Finset.sum_congr rfl fun k _ => ?_
    rw [cbOf_at]
    exact congrArg (· * s (ix2 (k.castLE hn) d)) ((rows8_at _ ⟨tok.val % 8, ht⟩ h k).trans (O.w h k))

/-- The log-sum-exp block. -/
theorem attE_at (z : Fin 1) (tok : Fin 64) (h : Fin 32) :
    attE (F := Ideal) scaleLog2e log2e ln2 nk hn row n (startPos i1) I (ix3 z tok h) = keep (64 * i1 + tok.val) n (winRow I i1 tok h).lse := by
  have hj : tok.val / 8 < 8 := by omega
  have ht : tok.val % 8 < 8 := by omega
  have e : (⟨8 * (tok.val / 8) + tok.val % 8, by omega⟩ : Fin 64) = tok := Fin.ext (by show 8 * (tok.val / 8) + tok.val % 8 = tok.val; omega)
  have O := chunk_out hn hrow I i1 hi hlo hhi (tok.val / 8) (tok.val % 8) hj ht
  rw [e] at O
  refine (outLse_at n (startPos i1) _ z tok h).trans ?_
  have hw : BitVec.ofNat 32 tok.val + startPos i1 = BitVec.ofNat 32 (64 * i1 + tok.val) := by
    rw [startPos_word, ← BitVec.ofNat_add, Nat.add_comm]
  refine congrArg₂ (fun (p : BitVec 32) (v : EReal) => Scalar.select (IntOp.cmpi .slt p n) v 0) hw ?_
  refine Eq.trans ?_ (O.lse h)
  exact accs_at (fun j hj t ht => lseCol (F := Ideal) log2e ln2
    (chunkRow row (ctxOf (F := Ideal) scaleLog2e I (startPos i1)) (keysOf nk hn I.c) (keysOf nk hn I.kr) I.q I.qr j hj t ht).m
    (chunkRow row (ctxOf (F := Ideal) scaleLog2e I (startPos i1)) (keysOf nk hn I.c) (keysOf nk hn I.kr) I.q I.qr j hj t ht).l) 8 (by decide) h tok (by omega)

end attend

/-- Past the length nothing is kept. -/
theorem keep_past {i1 : ℕ} (hi : i1 < 6) (tok : Fin 64) (n : BitVec 32) (h : ¬ Scalar.cmpi .slt (startPos i1) n = 1#1) (v : EReal) :
    keep (64 * i1 + tok.val) n v = 0 := by
  have e : (BitVec.ofNat 32 (64 * i1 + tok.val)).slt n = false := by
    have h' : (startPos i1).slt n = false := by
      cases e : (startPos i1).slt n
      · rfl
      · exact absurd (show BitVec.ofBool ((startPos i1).slt n) = 1#1 by rw [e]; rfl) h
    rw [startPos_word] at h'
    rw [Bool.eq_false_iff, ne_eq, BitVec.slt_iff_toInt_lt] at h' ⊢
    rw [BitVec.toInt_eq_toNat_cond, BitVec.toNat_ofNat] at h' ⊢
    split at h' <;> split <;> omega
  unfold keep
  rw [show IntOp.cmpi .slt (BitVec.ofNat 32 (64 * i1 + tok.val)) n = 0#1 from by
    show BitVec.ofBool ((BitVec.ofNat 32 (64 * i1 + tok.val)).slt n) = 0#1
    rw [e]; rfl]
  rfl

/-- The output block of a window at any length. -/
theorem stepO_at (i1 : ℕ) (hi : i1 < 6) (n : BitVec 32) (I : Ins Ideal) (s : Vec Ideal (Mat 384 512) .bf16) (z : Fin 1) (tok : Fin 64) (h : Fin 32) (d : Fin 512) :
    stepO (F := Ideal) scaleLog2e i1 n I s (ix4 z tok h d) = keep (64 * i1 + tok.val) n ((winRow I i1 tok h).ov fun k => s (ix2 k d)) := by
  unfold stepO
  split
  · split
    · exact attO_at _ computes1 I i1 hi (by omega) (by omega) n s z tok h d
    · split
      · exact attO_at _ computes2 I i1 hi (by omega) (by omega) n s z tok h d
      · exact attO_at _ computes3 I i1 hi (by omega) (by omega) n s z tok h d
  · rename_i hp
    rw [keep_past hi tok n hp]
    exact Ideal.ofBits_zero .bf16

/-- The log-sum-exp block of a window at any length. -/
theorem stepE_at (i1 : ℕ) (hi : i1 < 6) (n : BitVec 32) (I : Ins Ideal) (z : Fin 1) (tok : Fin 64) (h : Fin 32) :
    stepE (F := Ideal) scaleLog2e log2e ln2 i1 n I (ix3 z tok h) = keep (64 * i1 + tok.val) n (winRow I i1 tok h).lse := by
  unfold stepE
  split
  · split
    · exact attE_at _ computes1 I i1 hi (by omega) (by omega) n z tok h
    · split
      · exact attE_at _ computes2 I i1 hi (by omega) (by omega) n z tok h
      · exact attE_at _ computes3 I i1 hi (by omega) (by omega) n z tok h
  · rename_i hp
    rw [keep_past hi tok n hp]
    exact Ideal.ofBits_zero .f32

end Cert.Mla
end
-- ==== Proof.RefValue.lean ====
/- The reference's two results at an index: the row's weighted sum and its log-sum-exp, zero from the sequence's length on. -/
module

public import proofs.«01_k».proof.Proof.Gen.ReferenceIdeal.Value
public import proofs.«01_k».proof.Proof.Row
public import proofs.«01_k».proof.Proof.Words
public import Idealize.ShloMosaic.Lib.Pointwise.Tactic
public import Idealize.ShloMosaic.Lib.Pointwise

@[expose] public section

noncomputable section

namespace Cert.ReferenceIdeal.Row

open Cert.ReferenceIdeal Cert.ReferenceIdeal.Gen Cert.Mla Idealize.ShloMosaic

variable (q : Vec Ideal S3x384x32x512 .fp8e4m3) (qs : Vec Ideal S3x384x32 .f32) (qr : Vec Ideal S3x384x32x64 .bf16)
  (c : Vec Ideal S3x384x512 .fp8e4m3) (cs : Vec Ideal S3x384 .f32) (kr : Vec Ideal S3x384x64 .bf16) (n : Vec Ideal S3 .i32)

/-- The row of head `h` of token `t` of sequence `b`. -/
def row (b : Fin 3) (t : Fin 384) (h : Fin 32) : RowArgs where
  a k := ∑ d : Fin 512, q (ix4 b t h d) * c (ix3 b k d)
  r k := ∑ d : Fin 64, qr (ix4 b t h d) * kr (ix3 b k d)
  qs := qs (ix3 b t h)
  cs k := cs (ix2 b k)
  t := t.val

theorem row_cs (b : Fin 3) (t : Fin 384) (h : Fin 32) (k : Fin 384) : (row q qs qr c cs kr b t h).cs k = cs (ix2 b k) := rfl

/-- The scores. -/
theorem sc_at (b : Fin 3) (t : Fin 384) (h : Fin 32) (k : Fin 384) :
    k0_pay3 q qr qs cs c kr (ix4 b t h k) = (row q qs qr c cs kr b t h).sc k := by
  unfold k0_pay3
  pointwise [dot_S3x12288x512_S3x384x512_S3x12288x384_2_2_1_1_0_0, dot_S3x12288x64_S3x384x64_S3x12288x384_2_2_1_1_0_0]
  rw [select_sle _ _ (by omega) (by omega), negInf, IdealRules.named_const.ideal_named_scalar κ "sm_scale" _ _ rfl]
  rfl

/-- Their maximum. -/
theorem mx_at (b : Fin 3) (t : Fin 384) (h : Fin 32) (k : Fin 1) :
    k0_pay4 q qr qs cs c kr (ix4 b t h k) = (row q qs qr c cs kr b t h).mx := by
  unfold k0_pay4
  pointwise [sc_at]
  rw [negInf]
  rfl

/-- The exponentials. -/
theorem ex_at (b : Fin 3) (t : Fin 384) (h : Fin 32) (k : Fin 384) :
    k0_pay5 q qr qs cs c kr (ix4 b t h k) = (row q qs qr c cs kr b t h).ex k := by
  unfold k0_pay5
  pointwise [sc_at, mx_at, RowArgs.ex]

/-- Their sum. -/
theorem sm_at (b : Fin 3) (t : Fin 384) (h : Fin 32) (k : Fin 1) :
    k0_pay6 q qr qs cs c kr (ix4 b t h k) = (row q qs qr c cs kr b t h).sm := by
  unfold k0_pay6
  pointwise [ex_at, RowArgs.sm]

/-- A sum with a logarithm, at an index. -/
theorem add_log (v w : FVec Ideal S3x384x32x1 .f32) (i : S3x384x32x1.Idx) : addf v (log w) i = v i + Ideal.log (w i) := rfl

/-- The log-sum-exp. -/
theorem lse_at (b : Fin 3) (t : Fin 384) (h : Fin 32) (k : Fin 1) :
    k0_pay7 q qr qs cs c kr (ix4 b t h k) = (row q qs qr c cs kr b t h).lse := by
  unfold k0_pay7
  rw [add_log, sm_at, mx_at]
  simp only [RowArgs.lse]

/-- The first result. -/
theorem G7_at (b : Fin 3) (t : Fin 384) (h : Fin 32) (d : Fin 512) :
    Value.G7 q qs qr c cs kr n (ix4 b t h d)
      = Scalar.select (IntOp.cmpi .slt (BitVec.ofNat 32 t.val) (n (ix1 b))) ((row q qs qr c cs kr b t h).ov fun k => c (ix3 b k d)) 0 := by
  unfold Value.G7 k0_pay1
  pointwise [dot_S3x12288x384_S3x384x512_S3x12288x512_2_1_1_2_0_0, ex_at, sm_at, RowArgs.ov, RowArgs.wt, row_cs]

/-- The second result. -/
theorem G8_at (b : Fin 3) (t : Fin 384) (h : Fin 32) :
    Value.G8 q qs qr c cs kr n (ix3 b t h)
      = Scalar.select (IntOp.cmpi .slt (BitVec.ofNat 32 t.val) (n (ix1 b))) (row q qs qr c cs kr b t h).lse 0 := by
  unfold Value.G8 k0_pay2
  pointwise [lse_at]

end Cert.ReferenceIdeal.Row
end
-- ==== Proof.KernelIdeal.Blocks.lean ====
/- What the windows of `KernelIdeal` read and write, at an index: the sequence `b` of a point, the rows of its query block, and
   the whole of the sequence's keys. -/
module

public import proofs.«01_k».proof.Proof.KernelIdeal.Ok
public import proofs.«01_k».proof.Proof.KernelWin
public import proofs.«01_k».proof.Proof.RefValue
public import Idealize.ShloMosaic.Lib.Pipeline.Value

@[expose] public section

noncomputable section

namespace Cert.KernelIdeal.Body

open Idealize.ShloMosaic Idealize.ShloMosaic.TcCoe
open Cert.KernelIdeal Cert.KernelIdeal.Gen Cert.Mla

/-! ## The constants -/

theorem cC_eq : (cC : Ideal .f32) = scaleLog2e := IdealRules.named_const.ideal_named_scalar κ "scale_log2e" _ _ rfl
theorem cL_eq : (cL : Ideal .f32) = log2e := IdealRules.named_const.ideal_named_scalar κ "log2e" _ _ rfl
theorem cN_eq : (cN : Ideal .f32) = ln2 := IdealRules.named_const.ideal_named_scalar κ "ln2" _ _ rfl

variable (m : (ℓ : Loc nD τ sig) → Buf (Elt Ideal) ℓ) (hO : Ok m) (c : Dev nD) (t : Fin (cfgM m hO).N)

/-! ## A point's coordinates and its word of the table -/

/-- The sequence of a point, -/
abbrev seqOf : Fin 3 := grid0.coords t 0
/-- its query block, -/
abbrev blkOf : Fin 6 := grid0.coords t 1
/-- and the token of the sequence that is token `k` of the block. -/
def tokOf (k : Fin 64) : Fin 384 := ⟨64 * (blkOf m hO t).val + k.val, by have := (blkOf m hO t).isLt; omega⟩

theorem coord0 : (grid0.coords t 0).val = t.val / 6 % 3 :=
  (Pipeline.Grid.coords_val (G := grid0) t 0 (by decide) rfl : (grid0.coords t 0).val = t.val / 6 % 3)

/-- The word of a point is the length of its sequence. -/
theorem word_eq (i : grid0.Coords) (tb : Vec Ideal S3 .i32) : tbWord (F := Ideal) c i tb = tb (ix1 (i 0)) := by
  have h : (i 0).val < 3 := (i 0).isLt
  show tb _ = tb _
  refine congrArg tb (funext fun a => Fin.ext ?_)
  match a with
  | ⟨0, _⟩ =>
    show (BitVec.ofNat 32 (i 0).val).toNat + 1 * 0 = (i 0).val
    rw [BitVec.toNat_ofNat, Nat.mod_eq_of_lt (by omega)]; omega

/-- The length of a point's sequence. -/
abbrev lenOf : BitVec 32 := tbl m 0 (ix1 (seqOf m hO t))

theorem seq_nat (i : grid0.Coords) : (BitVec.ofNat 32 (i 0).val).toNat = (i 0).val := by
  have h : (i 0).val < 3 := (i 0).isLt
  rw [BitVec.toNat_ofNat, Nat.mod_eq_of_lt (by omega)]
theorem blk_nat (i : grid0.Coords) : (BitVec.ofNat 32 (i 1).val).toNat = (i 1).val := by
  have h : (i 1).val < 6 := (i 1).isLt
  rw [BitVec.toNat_ofNat, Nat.mod_eq_of_lt (by omega)]

/-! ## The blocks read -/

theorem qblk (hp : Pos m) (ha : Scalar.cmpi .slt (startPos (blkOf m hO t).val) (lenOf m hO t) = 1#1) :
    (blk (blkOf m hO t).val (tbWord (F := Ideal) c (grid0.coords t) (tbl m 0))).toNat = (blkOf m hO t).val :=
  (congrArg (fun n => (blk (blkOf m hO t).val n).toNat) (word_eq c (grid0.coords t) (tbl m 0))).trans
    (blk_act (blkOf m hO t).isLt _ (tbl_pos m hp _) ha)

theorem q_at (hp : Pos m) (ha : Scalar.cmpi .slt (startPos (blkOf m hO t).val) (lenOf m hO t) = 1#1) (k : Fin 64) (h : Fin 32) (d : Fin 512) :
    (insAt m hO c t).q (ix4 0 k h d) = m ((c : Thread nD τ).loc main_arg0) (ix4 (seqOf m hO t) (tokOf m hO t k) h d) := by
  show V m c main_arg0 ((((cfgM m hO).win 0).blk t).view.emb (ix4 0 k h d)) = _
  refine (congrArg (V m c main_arg0) (funext fun a => Fin.ext ?_)).trans (congrFun (V_main_arg0 m c) _)
  match a with
  | ⟨0, _⟩ => show (BitVec.ofNat 32 (grid0.coords t 0).val).toNat * 1 + 1 * 0 = (grid0.coords t 0).val; rw [seq_nat]; omega
  | ⟨1, _⟩ =>
    show (blk (blkOf m hO t).val (tbWord (F := Ideal) c (grid0.coords t) (tbl m 0))).toNat * 64 + 1 * k.val = 64 * (blkOf m hO t).val + k.val
    rw [qblk m hO c t hp ha]; omega
  | ⟨2, _⟩ => show 0 * 32 + 1 * h.val = h.val; omega
  | ⟨3, _⟩ => show 0 * 512 + 1 * d.val = d.val; omega

theorem qs_at (hp : Pos m) (ha : Scalar.cmpi .slt (startPos (blkOf m hO t).val) (lenOf m hO t) = 1#1) (k : Fin 64) (h : Fin 32) :
    (insAt m hO c t).qs (ix3 0 k h) = m ((c : Thread nD τ).loc main_arg1) (ix3 (seqOf m hO t) (tokOf m hO t k) h) := by
  show V m c main_arg1 ((((cfgM m hO).win 1).blk t).view.emb (ix3 0 k h)) = _
  refine (congrArg (V m c main_arg1) (funext fun a => Fin.ext ?_)).trans (congrFun (V_main_arg1 m c) _)
  match a with
  | ⟨0, _⟩ => show (BitVec.ofNat 32 (grid0.coords t 0).val).toNat * 1 + 1 * 0 = (grid0.coords t 0).val; rw [seq_nat]; omega
  | ⟨1, _⟩ =>
    show (blk (blkOf m hO t).val (tbWord (F := Ideal) c (grid0.coords t) (tbl m 0))).toNat * 64 + 1 * k.val = 64 * (blkOf m hO t).val + k.val
    rw [qblk m hO c t hp ha]; omega
  | ⟨2, _⟩ => show 0 * 32 + 1 * h.val = h.val; omega

theorem qr_at (hp : Pos m) (ha : Scalar.cmpi .slt (startPos (blkOf m hO t).val) (lenOf m hO t) = 1#1) (k : Fin 64) (h : Fin 32) (d : Fin 64) :
    (insAt m hO c t).qr (ix4 0 k h d) = m ((c : Thread nD τ).loc main_arg2) (ix4 (seqOf m hO t) (tokOf m hO t k) h d) := by
  show V m c main_arg2 ((((cfgM m hO).win 2).blk t).view.emb (ix4 0 k h d)) = _
  refine (congrArg (V m c main_arg2) (funext fun a => Fin.ext ?_)).trans (congrFun (V_main_arg2 m c) _)
  match a with
  | ⟨0, _⟩ => show (BitVec.ofNat 32 (grid0.coords t 0).val).toNat * 1 + 1 * 0 = (grid0.coords t 0).val; rw [seq_nat]; omega
  | ⟨1, _⟩ =>
    show (blk (blkOf m hO t).val (tbWord (F := Ideal) c (grid0.coords t) (tbl m 0))).toNat * 64 + 1 * k.val = 64 * (blkOf m hO t).val + k.val
    rw [qblk m hO c t hp ha]; omega
  | ⟨2, _⟩ => show 0 * 32 + 1 * h.val = h.val; omega
  | ⟨3, _⟩ => show 0 * 64 + 1 * d.val = d.val; omega

theorem c_at (k : Fin 384) (d : Fin 512) :
    (insAt m hO c t).c (ix3 0 k d) = m ((c : Thread nD τ).loc main_arg3) (ix3 (seqOf m hO t) k d) := by
  show V m c main_arg3 ((((cfgM m hO).win 3).blk t).view.emb (ix3 0 k d)) = _
  refine (congrArg (V m c main_arg3) (funext fun a => Fin.ext ?_)).trans (congrFun (V_main_arg3 m c) _)
  match a with
  | ⟨0, _⟩ => show (BitVec.ofNat 32 (grid0.coords t 0).val).toNat * 1 + 1 * 0 = (grid0.coords t 0).val; rw [seq_nat]; omega
  | ⟨1, _⟩ => show 0 * 384 + 1 * k.val = k.val; omega
  | ⟨2, _⟩ => show 0 * 512 + 1 * d.val = d.val; omega

theorem kr_at (k : Fin 384) (d : Fin 64) :
    (insAt m hO c t).kr (ix3 0 k d) = m ((c : Thread nD τ).loc main_arg5) (ix3 (seqOf m hO t) k d) := by
  show V m c main_arg5 ((((cfgM m hO).win 5).blk t).view.emb (ix3 0 k d)) = _
  refine (congrArg (V m c main_arg5) (funext fun a => Fin.ext ?_)).trans (congrFun (V_main_arg5 m c) _)
  match a with
  | ⟨0, _⟩ => show (BitVec.ofNat 32 (grid0.coords t 0).val).toNat * 1 + 1 * 0 = (grid0.coords t 0).val; rw [seq_nat]; omega
  | ⟨1, _⟩ => show 0 * 384 + 1 * k.val = k.val; omega
  | ⟨2, _⟩ => show 0 * 64 + 1 * d.val = d.val; omega

/-- The keys' scales, as the region finds them: the argument with an axis of one put in. -/
theorem V_main_v0 : V m c main_v0 = shapeCast S3x1x384 (m ((c : Thread nD τ).loc main_arg4)) shapeCasts_S3x384_S3x1x384 := by
  show StableHlo.after hostOps0 _ (Proc.devRef .tc main_v0) = _
  after_results
  rfl

theorem scales_at (b : Fin 3) (k : Fin 384) (x : Vec Ideal S3x384 .f32) :
    shapeCast S3x1x384 x shapeCasts_S3x384_S3x1x384 (ix3 b 0 k) = x (ix2 b k) := by
  pointwise

theorem cs_at (k : Fin 384) :
    (insAt m hO c t).cs (ix3 0 0 k) = m ((c : Thread nD τ).loc main_arg4) (ix2 (seqOf m hO t) k) := by
  show V m c main_v0 ((((cfgM m hO).win 4).blk t).view.emb (ix3 0 0 k)) = _
  refine (congrArg (V m c main_v0) (funext fun a => Fin.ext ?_)).trans
    ((congrFun (V_main_v0 m c) (ix3 (seqOf m hO t) 0 k)).trans (scales_at (seqOf m hO t) k _))
  match a with
  | ⟨0, _⟩ => show (BitVec.ofNat 32 (grid0.coords t 0).val).toNat * 1 + 1 * 0 = (grid0.coords t 0).val; rw [seq_nat]; omega
  | ⟨1, _⟩ => rfl
  | ⟨2, _⟩ => show 0 * 384 + 1 * k.val = k.val; omega

/-- The scratch holds the codes of the point's sequence. -/
theorem scr_at (k : Fin 384) (d : Fin 512) :
    scr m hO c t.val t.isLt (ix2 k d) = m ((c : Thread nD τ).loc main_arg3) (ix3 (seqOf m hO t) k d) := by
  unfold scr
  rw [widen_at, c_at]
  refine congrArg (fun b => m ((c : Thread nD τ).loc main_arg3) (ix3 b k d)) (Fin.ext ?_)
  rw [coord0, coord0]
  show (t.val - t.val % 6) / 6 % 3 = t.val / 6 % 3
  omega

/-! ## The blocks written -/

theorem emb6 (j : S1x64x32x512.Idx) :
    (((cfgM m hO).win 6).blk t).view.emb j = ix4 (seqOf m hO t) (tokOf m hO t (j 1)) (j 2) (j 3) := by
  funext a; apply Fin.ext
  match a with
  | ⟨0, _⟩ =>
    have h0 : (j 0).val < 1 := (j 0).isLt
    show (BitVec.ofNat 32 (grid0.coords t 0).val).toNat * 1 + 1 * (j 0).val = (grid0.coords t 0).val; rw [seq_nat]; omega
  | ⟨1, _⟩ => show (BitVec.ofNat 32 (grid0.coords t 1).val).toNat * 64 + 1 * (j 1).val = 64 * (grid0.coords t 1).val + (j 1).val; rw [blk_nat]; omega
  | ⟨2, _⟩ => show 0 * 32 + 1 * (j 2).val = (j 2).val; omega
  | ⟨3, _⟩ => show 0 * 512 + 1 * (j 3).val = (j 3).val; omega

theorem emb7 (j : S1x64x32.Idx) :
    (((cfgM m hO).win 7).blk t).view.emb j = ix3 (seqOf m hO t) (tokOf m hO t (j 1)) (j 2) := by
  funext a; apply Fin.ext
  match a with
  | ⟨0, _⟩ =>
    have h0 : (j 0).val < 1 := (j 0).isLt
    show (BitVec.ofNat 32 (grid0.coords t 0).val).toNat * 1 + 1 * (j 0).val = (grid0.coords t 0).val; rw [seq_nat]; omega
  | ⟨1, _⟩ => show (BitVec.ofNat 32 (grid0.coords t 1).val).toNat * 64 + 1 * (j 1).val = 64 * (grid0.coords t 1).val + (j 1).val; rw [blk_nat]; omega
  | ⟨2, _⟩ => show 0 * 32 + 1 * (j 2).val = (j 2).val; omega

/-- The point that writes token `s` of sequence `b`. -/
def pointOf (b : Fin 3) (s : Fin 384) : Fin (cfgM m hO).N := ⟨6 * b.val + s.val / 64, by show _ < 18; omega⟩

theorem seqOf_point (b : Fin 3) (s : Fin 384) : seqOf m hO (pointOf m hO b s) = b := by
  apply Fin.ext
  show (grid0.coords (pointOf m hO b s) 0).val = _
  rw [coord0]
  show (6 * b.val + s.val / 64) / 6 % 3 = b.val
  omega

theorem tokOf_point (b : Fin 3) (s : Fin 384) : tokOf m hO (pointOf m hO b s) ⟨s.val % 64, Nat.mod_lt _ (by decide)⟩ = s := by
  apply Fin.ext
  show 64 * (grid0.coords (pointOf m hO b s) 1).val + s.val % 64 = s.val
  rw [coord1]
  show 64 * ((6 * b.val + s.val / 64) % 6) + s.val % 64 = s.val
  omega

end Cert.KernelIdeal.Body
end
-- ==== Proof.KernelIdeal.Value.lean ====
/- The two results of `KernelIdeal`: each array ends at what the reference computes from the same arguments. -/
module

public import proofs.«01_k».proof.Proof.KernelIdeal.Blocks

@[expose] public section

noncomputable section

namespace Cert.KernelIdeal.Body

open Idealize.ShloMosaic Idealize.ShloMosaic.TcCoe Idealize.SL.Sem
open Cert.KernelIdeal Cert.KernelIdeal.Gen Cert.Mla

variable (m : (ℓ : Loc nD τ sig) → Buf (Elt Ideal) ℓ) (ρ : Dev nD → PrngReg)

/-- The reference's first result, of the kernel's arguments, -/
def resO (c : Dev nD) : Vec Ideal S3x384x32x512 .bf16 :=
  Cert.ReferenceIdeal.Value.G7 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
/-- and its second. -/
def resE (c : Dev nD) : Vec Ideal S3x384x32 .f32 :=
  Cert.ReferenceIdeal.Value.G8 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- The reference's row, of the kernel's arguments. -/
abbrev rowOf (c : Dev nD) (b : Fin 3) (s : Fin 384) (h : Fin 32) : RowArgs :=
  Cert.ReferenceIdeal.Row.row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b s h

/-- The length of a sequence, on any device. -/
theorem len_eq (c : Dev nD) (b : Fin 3) : m ((c : Thread nD τ).loc main_arg6) (ix1 b) = tbl m 0 (ix1 b) := by
  obtain rfl : c = 0 := Subsingleton.elim _ _
  exact (congrFun (tbl_eq m) (ix1 b)).symm

theorem resO_at (c : Dev nD) (b : Fin 3) (s : Fin 384) (h : Fin 32) (d : Fin 512) :
    resO m c (ix4 b s h d) = keep s.val (tbl m 0 (ix1 b)) ((rowOf m c b s h).ov fun k => m ((c : Thread nD τ).loc main_arg3) (ix3 b k d)) :=
  (Cert.ReferenceIdeal.Row.G7_at _ _ _ _ _ _ _ b s h d).trans
    (congrArg (fun n => keep s.val n ((rowOf m c b s h).ov fun k => m ((c : Thread nD τ).loc main_arg3) (ix3 b k d))) (len_eq m c b))

theorem resE_at (c : Dev nD) (b : Fin 3) (s : Fin 384) (h : Fin 32) :
    resE m c (ix3 b s h) = keep s.val (tbl m 0 (ix1 b)) (rowOf m c b s h).lse :=
  (Cert.ReferenceIdeal.Row.G8_at _ _ _ _ _ _ _ b s h).trans
    (congrArg (fun n => keep s.val n (rowOf m c b s h).lse) (len_eq m c b))

variable (hO : Ok m) (hp : Pos m) (c : Dev nD) (t : Fin (cfgM m hO).N)

include hp in
/-- A row of a point whose block begins before the sequence's end is the reference's row. -/
theorem winRow_eq (ha : Scalar.cmpi .slt (startPos (blkOf m hO t).val) (lenOf m hO t) = 1#1) (k : Fin 64) (h : Fin 32) :
    winRow (insAt m hO c t) (blkOf m hO t).val k h = rowOf m c (seqOf m hO t) (tokOf m hO t k) h := by
  unfold winRow rowOf Cert.ReferenceIdeal.Row.row
  simp only [q_at m hO c t hp ha, qs_at m hO c t hp ha, qr_at m hO c t hp ha, c_at, cs_at, kr_at]
  rfl

include hp in
/-- What a point keeps of a row is what the reference keeps. -/
theorem keep_row (f : RowArgs → EReal) (k : Fin 64) (h : Fin 32) :
    keep (64 * (blkOf m hO t).val + k.val) (lenOf m hO t) (f (winRow (insAt m hO c t) (blkOf m hO t).val k h))
      = keep (64 * (blkOf m hO t).val + k.val) (lenOf m hO t) (f (rowOf m c (seqOf m hO t) (tokOf m hO t k) h)) := by
  by_cases ha : Scalar.cmpi .slt (startPos (blkOf m hO t).val) (lenOf m hO t) = 1#1
  · rw [winRow_eq m hO hp c t ha]
  · rw [keep_past (blkOf m hO t).isLt k _ ha, keep_past (blkOf m hO t).isLt k _ ha]

include hp in
/-- A point's block of the first result, -/
theorem outO_at (z : Fin 1) (k : Fin 64) (h : Fin 32) (d : Fin 512) :
    outO m hO c t (ix4 z k h d) = resO m c (ix4 (seqOf m hO t) (tokOf m hO t k) h d) := by
  rw [resO_at]
  unfold outO
  rw [cC_eq]
  refine (stepO_at (blkOf m hO t).val (blkOf m hO t).isLt _ _ _ z k h d).trans ?_
  refine (congrArg (fun n => keep (64 * (blkOf m hO t).val + k.val) n _) (word_eq c (grid0.coords t) (tbl m 0))).trans ?_
  simp only [scr_at]
  exact keep_row m hO hp c t (fun R => R.ov fun k => m ((c : Thread nD τ).loc main_arg3) (ix3 (seqOf m hO t) k d)) k h

include hp in
/-- and of the second. -/
theorem outE_at (z : Fin 1) (k : Fin 64) (h : Fin 32) :
    outE m hO c t (ix3 z k h) = resE m c (ix3 (seqOf m hO t) (tokOf m hO t k) h) := by
  rw [resE_at]
  unfold outE
  rw [cC_eq, cL_eq, cN_eq]
  refine (stepE_at (blkOf m hO t).val (blkOf m hO t).isLt _ _ z k h).trans ?_
  refine (congrArg (fun n => keep (64 * (blkOf m hO t).val + k.val) n _) (word_eq c (grid0.coords t) (tbl m 0))).trans ?_
  exact keep_row m hO hp c t RowArgs.lse k h

/-! ## The arrays after the run -/

include hp in
theorem block6 (j : S1x64x32x512.Idx) : outO m hO c t j = resO m c ((((cfgM m hO).win 6).blk t).view.emb j) :=
  (congrArg (outO m hO c t) (ix4_eta j).symm).trans
    ((outO_at m hO hp c t (j 0) (j 1) (j 2) (j 3)).trans (congrArg (resO m c) (emb6 m hO t j).symm))

include hp in
theorem block7 (j : S1x64x32.Idx) : outE m hO c t j = resE m c ((((cfgM m hO).win 7).blk t).view.emb j) :=
  (congrArg (outE m hO c t) (ix3_eta j).symm).trans
    ((outE_at m hO hp c t (j 0) (j 1) (j 2)).trans (congrArg (resE m c) (emb7 m hO t j).symm))

include hp in
theorem flushed6 : (dats m hO 0 c).flushed 6 t = (((cfgM m hO).win 6).blk t).view.read (Elt Ideal) (resO m c) := by
  show ((cfgM m hO).win 6).cut (grid0.coords t) ((dats m hO 0 c).after 6 t) = _
  rw [after0_6]
  exact funext fun j => block6 m hO hp c t j

include hp in
theorem flushed7 : (dats m hO 0 c).flushed 7 t = (((cfgM m hO).win 7).blk t).view.read (Elt Ideal) (resE m c) := by
  show ((cfgM m hO).win 7).cut (grid0.coords t) ((dats m hO 0 c).after 7 t) = _
  rw [after0_7]
  exact funext fun j => block7 m hO hp c t j

theorem mem6 (j : S1x64x32x512.Idx) : (ix4 (seqOf m hO t) (tokOf m hO t (j 1)) (j 2) (j 3) : S3x384x32x512.Idx) ∈ (((cfgM m hO).win 6).blk t).view.set :=
  Eq.subst (motive := fun y : S3x384x32x512.Idx => y ∈ (((cfgM m hO).win 6).blk t).view.set) (emb6 m hO t j) ((((cfgM m hO).win 6).blk t).view.emb_mem_set j)

theorem mem7 (j : S1x64x32.Idx) : (ix3 (seqOf m hO t) (tokOf m hO t (j 1)) (j 2) : S3x384x32.Idx) ∈ (((cfgM m hO).win 7).blk t).view.set :=
  Eq.subst (motive := fun y : S3x384x32.Idx => y ∈ (((cfgM m hO).win 7).blk t).view.set) (emb7 m hO t j) ((((cfgM m hO).win 7).blk t).view.emb_mem_set j)

/-- A token of a block. -/
abbrev inBlock (s : Fin 384) : Fin 64 := ⟨s.val % 64, Nat.mod_lt _ (by decide)⟩

/-- Every token is written by the point of its sequence and block. -/
theorem point6 (b : Fin 3) (s : Fin 384) (h : Fin 32) (d : Fin 512) :
    (ix4 b s h d : S3x384x32x512.Idx) ∈ (((cfgM m hO).win 6).blk (pointOf m hO b s)).view.set := by
  have key : (ix4 (seqOf m hO (pointOf m hO b s)) (tokOf m hO (pointOf m hO b s) (inBlock s)) h d : S3x384x32x512.Idx)
      ∈ (((cfgM m hO).win 6).blk (pointOf m hO b s)).view.set := mem6 m hO (pointOf m hO b s) (ix4 0 (inBlock s) h d)
  rw [seqOf_point, tokOf_point] at key
  exact key

theorem point7 (b : Fin 3) (s : Fin 384) (h : Fin 32) :
    (ix3 b s h : S3x384x32.Idx) ∈ (((cfgM m hO).win 7).blk (pointOf m hO b s)).view.set := by
  have key : (ix3 (seqOf m hO (pointOf m hO b s)) (tokOf m hO (pointOf m hO b s) (inBlock s)) h : S3x384x32.Idx)
      ∈ (((cfgM m hO).win 7).blk (pointOf m hO b s)).view.set := mem7 m hO (pointOf m hO b s) (ix3 0 (inBlock s) h)
  rw [seqOf_point, tokOf_point] at key
  exact key

theorem covered6 (x : S3x384x32x512.Idx) : ∃ t : Fin (cfgM m hO).N, ((cfgM m hO).win 6).flush t = true ∧ x ∈ (((cfgM m hO).win 6).blk t).view.set := by
  obtain ⟨b, s, h, d, rfl⟩ : ∃ (b : Fin 3) (s : Fin 384) (h : Fin 32) (d : Fin 512), x = ix4 b s h d := ⟨x 0, x 1, x 2, x 3, (ix4_eta x).symm⟩
  exact ⟨pointOf m hO b s, flush0_6 _ _, point6 m hO b s h d⟩

theorem covered7 (x : S3x384x32.Idx) : ∃ t : Fin (cfgM m hO).N, ((cfgM m hO).win 7).flush t = true ∧ x ∈ (((cfgM m hO).win 7).blk t).view.set := by
  obtain ⟨b, s, h, rfl⟩ : ∃ (b : Fin 3) (s : Fin 384) (h : Fin 32), x = ix3 b s h := ⟨x 0, x 1, x 2, (ix3_eta x).symm⟩
  exact ⟨pointOf m hO b s, flush0_7 _ _, point7 m hO b s h⟩

include hp in
theorem final6 : (dats m hO 0 c).arrAt 6 (cfgM m hO).N = resO m c :=
  (dats m hO 0 c).arrAt_eq_of_cover 6 (resO m c) (fun t _ => flushed6 m hO hp c t) (covered6 m hO)

include hp in
theorem final7 : (dats m hO 0 c).arrAt 7 (cfgM m hO).N = resE m c :=
  (dats m hO 0 c).arrAt_eq_of_cover 7 (resE m c) (fun t _ => flushed7 m hO hp c t) (covered7 m hO)

include hO hp in
/-- The run: each result is the reference's, and the arguments are unchanged. -/
theorem run : θ_run defs (onTc (τ := τ) (main (F := Ideal))) ⟨m, fun _ => 0, ρ⟩ (fun r => ∀ c : Dev nD,
      r.2.mem ((c : Thread nD τ).loc main_v1_0) = resO m c
      ∧ r.2.mem ((c : Thread nD τ).loc main_v1_1) = resE m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) :=
  (θ_run defs _ _).mono (fun _ h c => ⟨((h c).1 6).trans (final6 m hO hp c), ((h c).1 7).trans (final7 m hO hp c),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).1 2).trans (((dats m hO 0 c).arrAt_in 2 rfl _).trans ((A_eq m hO c 2).trans (V_main_arg2 m c))),
      ((h c).1 3).trans (((dats m hO 0 c).arrAt_in 3 rfl _).trans ((A_eq m hO c 3).trans (V_main_arg3 m c))),
      ((h c).2 main_arg4 (by decide : main_arg4 ∈ Pipeline.restRefs sig spec0)).trans (V_main_arg4 m c),
      ((h c).1 5).trans (((dats m hO 0 c).arrAt_in 5 rfl _).trans ((A_eq m hO c 5).trans (V_main_arg5 m c))),
      ((h c).2 main_arg6 (by decide : main_arg6 ∈ Pipeline.restRefs sig spec0)).trans (V_main_arg6 m c)⟩) (run_main m ρ hO)

end Cert.KernelIdeal.Body
end
-- ==== Proof.lean ====
module

public import proofs.«01_k».proof.Defs
public import proofs.«01_k».proof.Proof.Gen.Kernel
public import proofs.«01_k».proof.Proof.Gen.Kernel.Launch
public import proofs.«01_k».proof.Proof.Gen.KernelIdeal
public import proofs.«01_k».proof.Proof.Gen.KernelIdeal.Launch
public import proofs.«01_k».proof.Proof.Gen.ReferenceIdeal
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_lengths_positive
public import proofs.«01_k».proof.Proof.Kernel.Ok
public import proofs.«01_k».proof.Proof.KernelIdeal.Ok
public import proofs.«01_k».proof.Proof.KernelIdeal.Value

@[expose] public section

noncomputable section

namespace Cert.Proof

open Idealize.ShloMosaic Idealize.SL.Sem

/-- The kernel's frame at words, -/
theorem frame_kernel : Cert.quiescent_Kernel (hKernel := Cert.Kernel.Gen.facts) (hPre_lengths_positive := Cert.Pre_lengths_positive.Gen.facts) :=
  fun m g h => Cert.Kernel.Body.frame m g (Cert.Kernel.Body.ok_of_pos m (Cert.Kernel.Body.pos_of_pre m h))

/-- and at the extended reals. -/
theorem frame_ideal : Cert.quiescent_KernelIdeal (hKernelIdeal := Cert.KernelIdeal.Gen.facts) (hPre_lengths_positive := Cert.Pre_lengths_positive.Gen.facts) :=
  fun m g h => Cert.KernelIdeal.Body.frame m g (Cert.KernelIdeal.Body.ok_of_pos m (Cert.KernelIdeal.Body.pos_of_pre m h))

/-- The named constants are the numbers that the ideal program reads. -/
theorem preserves : Cert.preserves_Kernel_KernelIdeal :=
  ⟨IdealRules.named_const.statement _ _ _ _ _ rfl, IdealRules.named_const.statement _ _ _ _ _ rfl, IdealRules.named_const.statement _ _ _ _ _ rfl⟩

/-- The two programs end with the same results: the kernel's are the reference's functions of the kernel's arguments, and the
    arguments are equal. -/
theorem algebraic : Cert.algebraic_KernelIdeal_ReferenceIdeal (hKernelIdeal := Cert.KernelIdeal.Gen.facts) (hReferenceIdeal := Cert.ReferenceIdeal.Gen.facts) (hPre_lengths_positive := Cert.Pre_lengths_positive.Gen.facts) := by
  intro m g m' g' hp he
  have hp' := Cert.KernelIdeal.Body.pos_of_pre m hp
  refine ⟨Cert.KernelIdeal.Body.resO m, Cert.KernelIdeal.Body.resE m,
    Cert.KernelIdeal.Body.run m g (Cert.KernelIdeal.Body.ok_of_pos m hp') hp', ?_⟩
  refine (θ_run Cert.ReferenceIdeal.defs _ _).mono (fun r h c => ?_) (Cert.ReferenceIdeal.Value.run m' g')
  obtain ⟨e0, e1, e2, e3, e4, e5, e6⟩ := he c
  refine ⟨(h c).1.trans ?_, (h c).2.1.trans ?_, (h c).2.2⟩
  · unfold Cert.KernelIdeal.Body.resO
    rw [e0, e1, e2, e3, e4, e5, e6]
  · unfold Cert.KernelIdeal.Body.resE
    rw [e0, e1, e2, e3, e4, e5, e6]

theorem claim : Cert.Claim :=
  ⟨Cert.Kernel.Gen.facts, Cert.KernelIdeal.Gen.facts, Cert.ReferenceIdeal.Gen.facts, Cert.Pre_lengths_positive.Gen.facts,
    frame_kernel, frame_ideal, fun m g _ => Cert.ReferenceIdeal.Gen.frame m g, fun m g _ => Cert.ReferenceIdeal.Gen.frame m g, preserves, algebraic⟩

end Cert.Proof

end
